-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite [hPre_finite : Cert.Pre_finite.Facts] (m : (ℓ : Loc Cert.BandIdeal.nD Cert.BandIdeal.τ Cert.BandIdeal.sig) → Buf (Elt Ideal) ℓ) : Prop :=
  ∀ c : Dev Cert.BandIdeal.nD,
    (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).1 = (fun _ => 1#1)
    ∧ (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.1 = (fun _ => 1#1)
    ∧ (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite [hPre_finite : Cert.Pre_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).1 = (fun _ => 1#1)
    ∧ (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).2.1 = (fun _ => 1#1)
    ∧ (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandIdeal_pre_finite [hBandIdeal : Cert.BandIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_BandRefIdeal_pre_finite [hBandRefIdeal : Cert.BandRefIdeal.Facts] [hPre_finite : Cert.Pre_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def preserves_Band_BandIdeal : Prop :=
  IdealRules.named_const.Statement Cert.BandIdeal.κ "scale_log2e" .f32 0x3E38AA3B#32 (((1 / 8) * (Real.log 2)⁻¹ : ℝ) : EReal)
  ∧ IdealRules.named_const.Statement Cert.BandIdeal.κ "log2e" .f32 0x3FB8AA3B#32 (((Real.log 2)⁻¹ : ℝ) : EReal)

def algebraic_BandIdeal_BandRefIdeal_pre_finite [hBandIdeal : Cert.BandIdeal.Facts] [hBandRefIdeal : Cert.BandRefIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v40)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v40) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v76) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v11)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v11) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v43) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)) →
    ∃ (v0 : (c : Dev Cert.InpIdeal.nD) → Buf (Elt Ideal) ((c.tc : Thread Cert.InpIdeal.nD Cert.InpIdeal.τ).loc Cert.InpIdeal.main_v95_0)) (v1 : (c : Dev Cert.InpIdeal.nD) → Buf (Elt Ideal) ((c.tc : Thread Cert.InpIdeal.nD Cert.InpIdeal.τ).loc Cert.InpIdeal.main_v95_7)) (v2 : (c : Dev Cert.InpIdeal.nD) → Buf (Elt Ideal) ((c.tc : Thread Cert.InpIdeal.nD Cert.InpIdeal.τ).loc Cert.InpIdeal.main_v95_8)) (v3 : (c : Dev Cert.InpIdeal.nD) → Buf (Elt Ideal) ((c.tc : Thread Cert.InpIdeal.nD Cert.InpIdeal.τ).loc Cert.InpIdeal.main_v95_10)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v95_0) = v0 c
          ∧ r.2.mem ((c.tc : Thread Cert.InpIdeal.nD Cert.InpIdeal.τ).loc Cert.InpIdeal.main_v95_7) = v1 c
          ∧ r.2.mem ((c.tc : Thread Cert.InpIdeal.nD Cert.InpIdeal.τ).loc Cert.InpIdeal.main_v95_8) = v2 c
          ∧ r.2.mem ((c.tc : Thread Cert.InpIdeal.nD Cert.InpIdeal.τ).loc Cert.InpIdeal.main_v95_10) = v3 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v24) = v0 c
          ∧ r.2.mem ((c.tc : Thread Cert.InpRefIdeal.nD Cert.InpRefIdeal.τ).loc Cert.InpRefIdeal.main_v46) = v1 c
          ∧ r.2.mem ((c.tc : Thread Cert.InpRefIdeal.nD Cert.InpRefIdeal.τ).loc Cert.InpRefIdeal.main_v49) = v2 c
          ∧ r.2.mem ((c.tc : Thread Cert.InpRefIdeal.nD Cert.InpRefIdeal.τ).loc Cert.InpRefIdeal.main_v43) = v3 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6))

def Claim : Prop :=
  ∃ (hBand : Cert.Band.Facts) (hBandIdeal : Cert.BandIdeal.Facts) (hBandRefIdeal : Cert.BandRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hPre_finite : Cert.Pre_finite.Facts),
    quiescent_Band (hBand := hBand)
    ∧ quiescent_BandIdeal (hBandIdeal := hBandIdeal)
    ∧ quiescent_BandIdeal_pre_finite (hBandIdeal := hBandIdeal) (hPre_finite := hPre_finite)
    ∧ quiescent_BandRefIdeal (hBandRefIdeal := hBandRefIdeal)
    ∧ quiescent_BandRefIdeal_pre_finite (hBandRefIdeal := hBandRefIdeal) (hPre_finite := hPre_finite)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ preserves_Band_BandIdeal
    ∧ algebraic_BandIdeal_BandRefIdeal_pre_finite (hBandIdeal := hBandIdeal) (hBandRefIdeal := hBandRefIdeal) (hPre_finite := hPre_finite)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
-- ==== Pre_finite.lean ====
abbrev S32768x512 : Shape := ⟨2, ![32768, 512]⟩
abbrev S1x8x257 : Shape := ⟨3, ![1, 8, 257]⟩
abbrev S_ : Shape := ⟨0, ![]⟩

class Facts : Prop where
  bcast_S_S32768x512 : S_.BroadcastsInDim S32768x512 (![] : Fin 0 → Fin S32768x512.rank)
  bcast_S_S1x8x257 : S_.BroadcastsInDim S1x8x257 (![] : Fin 0 → Fin S1x8x257.rank)

variable [Facts]

def fn {F : FTy → Type} [FloatOps F] (main_arg0 : FVec F S32768x512 .f32) (main_arg1 : FVec F S32768x512 .f32) (main_arg2 : FVec F S32768x512 .f32) (main_arg3 : FVec F S1x8x257 .f32) : IVec S32768x512 1 × IVec S32768x512 1 × IVec S1x8x257 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S32768x512 .f32 := Host.absf main_arg1
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v3 main_v4
  let main_v6 : FVec F S1x8x257 .f32 := Host.absf main_arg3
  let main_cst_1 : FVec F S_ .f32 := constant S_ .f32 0x7F800000#32
  let main_v7 : FVec F S1x8x257 .f32 := broadcastInDim S1x8x257 ![] bcast_S_S1x8x257 main_cst_1
  let main_v8 : IVec S1x8x257 1 := cmpf .olt main_v6 main_v7
  (main_v2, main_v5, main_v8)
-- ==== Band.lean ====
abbrev S32768x512 : Shape := ⟨2, ![32768, 512]⟩
abbrev S1x8x257 : Shape := ⟨3, ![1, 8, 257]⟩
abbrev S1024 : Shape := ⟨1, ![1024]⟩
abbrev S4x8192x512 : Shape := ⟨3, ![4, 8192, 512]⟩
abbrev S_ : Shape := ⟨0, ![]⟩
abbrev S4x8704x512 : Shape := ⟨3, ![4, 8704, 512]⟩
abbrev S8x257 : Shape := ⟨2, ![8, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S1024x1 : Shape := ⟨2, ![1024, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S4x34x256x512 : Shape := ⟨4, ![4, 34, 256, 512]⟩
abbrev S4x34x512x256 : Shape := ⟨4, ![4, 34, 512, 256]⟩
abbrev S8x768x256 : Shape := ⟨3, ![8, 768, 256]⟩
abbrev S256x512 : Shape := ⟨2, ![256, 512]⟩
abbrev S1x8704x512 : Shape := ⟨3, ![1, 8704, 512]⟩
abbrev S1x34x512x256 : Shape := ⟨4, ![1, 34, 512, 256]⟩
abbrev S768x256 : Shape := ⟨2, ![768, 256]⟩
abbrev S128x256 : Shape := ⟨2, ![128, 256]⟩
abbrev S256x128 : Shape := ⟨2, ![256, 128]⟩
abbrev S1x768x128 : Shape := ⟨3, ![1, 768, 128]⟩
abbrev S768x128 : Shape := ⟨2, ![768, 128]⟩
abbrev S1x768x256 : Shape := ⟨3, ![1, 768, 256]⟩
abbrev S1x256 : Shape := ⟨2, ![1, 256]⟩
abbrev S1x1x128x256 : Shape := ⟨4, ![1, 1, 128, 256]⟩
abbrev S256x256 : Shape := ⟨2, ![256, 256]⟩

abbrev nBuf : Space → Nat
  | .hbm => 125
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S1x8x257, .f32⟩
  | .hbm, ⟨4, _⟩ => ⟨S1024, .i32⟩
  | .hbm, ⟨5, _⟩ => ⟨S1024, .i1⟩
  | .hbm, ⟨6, _⟩ => ⟨S32768x512, .bf16⟩
  | .hbm, ⟨7, _⟩ => ⟨S32768x512, .bf16⟩
  | .hbm, ⟨8, _⟩ => ⟨S4x8192x512, .bf16⟩
  | .hbm, ⟨9, _⟩ => ⟨S_, .i32⟩
  | .hbm, ⟨10, _⟩ => ⟨S_, .bf16⟩
  | .hbm, ⟨11, _⟩ => ⟨S4x8704x512, .bf16⟩
  | .hbm, ⟨12, _⟩ => ⟨S4x8192x512, .bf16⟩
  | .hbm, ⟨13, _⟩ => ⟨S_, .i32⟩
  | .hbm, ⟨14, _⟩ => ⟨S_, .bf16⟩
  | .hbm, ⟨15, _⟩ => ⟨S4x8704x512, .bf16⟩
  | .hbm, ⟨16, _⟩ => ⟨S8x257, .f32⟩
  | .hbm, ⟨17, _⟩ => ⟨S256, .i32⟩
  | .hbm, ⟨18, _⟩ => ⟨S256x1, .i32⟩
  | .hbm, ⟨19, _⟩ => ⟨S768, .i32⟩
  | .hbm, ⟨20, _⟩ => ⟨S1x768, .i32⟩
  | .hbm, ⟨21, _⟩ => ⟨S_, .i32⟩
  | .hbm, ⟨22, _⟩ => ⟨S_, .i32⟩
  | .hbm, ⟨23, _⟩ => ⟨S1x768, .i32⟩
  | .hbm, ⟨24, _⟩ => ⟨S1x768, .i32⟩
  | .hbm, ⟨25, _⟩ => ⟨S1x768, .i32⟩
  | .hbm, ⟨26, _⟩ => ⟨S_, .i32⟩
  | .hbm, ⟨27, _⟩ => ⟨S1x768, .i32⟩
  | .hbm, ⟨28, _⟩ => ⟨S1x768, .i1⟩
  | .hbm, ⟨29, _⟩ => ⟨S1x768, .i32⟩
  | .hbm, ⟨30, _⟩ => ⟨S1x768, .i32⟩
  | .hbm, ⟨31, _⟩ => ⟨S_, .i32⟩
  | .hbm, ⟨32, _⟩ => ⟨S1x768, .i32⟩
  | .hbm, ⟨33, _⟩ => ⟨S1x768, .i1⟩
  | .hbm, ⟨34, _⟩ => ⟨S1x768, .i1⟩
  | .hbm, ⟨35, _⟩ => ⟨S_, .i32⟩
  | .hbm, ⟨36, _⟩ => ⟨S1x768, .i32⟩
  | .hbm, ⟨37, _⟩ => ⟨S1x768, .i32⟩
  | .hbm, ⟨38, _⟩ => ⟨S1x768, .i32⟩
  | .hbm, ⟨39, _⟩ => ⟨S_, .i32⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S256x1, .i32⟩
  | .hbm, ⟨44, _⟩ => ⟨S_, .i32⟩
  | .hbm, ⟨45, _⟩ => ⟨S256x1, .i32⟩
  | .hbm, ⟨46, _⟩ => ⟨S256x1, .i1⟩
  | .hbm, ⟨47, _⟩ => ⟨S256x1, .i32⟩
  | .hbm, ⟨48, _⟩ => ⟨S256x1, .i32⟩
  | .hbm, ⟨49, _⟩ => ⟨S_, .i32⟩
  | .hbm, ⟨50, _⟩ => ⟨S256x1, .i32⟩
  | .hbm, ⟨51, _⟩ => ⟨S256x1, .i1⟩
  | .hbm, ⟨52, _⟩ => ⟨S256x1, .i1⟩
  | .hbm, ⟨53, _⟩ => ⟨S_, .i32⟩
  | .hbm, ⟨54, _⟩ => ⟨S256x1, .i32⟩
  | .hbm, ⟨55, _⟩ => ⟨S256x1, .i32⟩
  | .hbm, ⟨56, _⟩ => ⟨S256x1, .i32⟩
  | .hbm, ⟨57, _⟩ => ⟨S256x768, .i32⟩
  | .hbm, ⟨58, _⟩ => ⟨S256x768, .i32⟩
  | .hbm, ⟨59, _⟩ => ⟨S256x768, .i1⟩
  | .hbm, ⟨60, _⟩ => ⟨S_, .i32⟩
  | .hbm, ⟨61, _⟩ => ⟨S_, .i32⟩
  | .hbm, ⟨62, _⟩ => ⟨S1x768, .i32⟩
  | .hbm, ⟨63, _⟩ => ⟨S1x768, .i32⟩
  | .hbm, ⟨64, _⟩ => ⟨S1x768, .i32⟩
  | .hbm, ⟨65, _⟩ => ⟨S_, .i32⟩
  | .hbm, ⟨66, _⟩ => ⟨S1x768, .i32⟩
  | .hbm, ⟨67, _⟩ => ⟨S1x768, .i1⟩
  | .hbm, ⟨68, _⟩ => ⟨S1x768, .i32⟩
  | .hbm, ⟨69, _⟩ => ⟨S1x768, .i32⟩
  | .hbm, ⟨70, _⟩ => ⟨S_, .i32⟩
  | .hbm, ⟨71, _⟩ => ⟨S1x768, .i32⟩
  | .hbm, ⟨72, _⟩ => ⟨S1x768, .i1⟩
  | .hbm, ⟨73, _⟩ => ⟨S1x768, .i1⟩
  | .hbm, ⟨74, _⟩ => ⟨S_, .i32⟩
  | .hbm, ⟨75, _⟩ => ⟨S1x768, .i32⟩
  | .hbm, ⟨76, _⟩ => ⟨S1x768, .i32⟩
  | .hbm, ⟨77, _⟩ => ⟨S1x768, .i32⟩
  | .hbm, ⟨78, _⟩ => ⟨S_, .i32⟩
  | .hbm, ⟨79, _⟩ => ⟨S_, .i32⟩
  | .hbm, ⟨80, _⟩ => ⟨S256x1, .i32⟩
  | .hbm, ⟨81, _⟩ => ⟨S256x1, .i32⟩
  | .hbm, ⟨82, _⟩ => ⟨S256x1, .i32⟩
  | .hbm, ⟨83, _⟩ => ⟨S_, .i32⟩
  | .hbm, ⟨84, _⟩ => ⟨S256x1, .i32⟩
  | .hbm, ⟨85, _⟩ => ⟨S256x1, .i1⟩
  | .hbm, ⟨86, _⟩ => ⟨S256x1, .i32⟩
  | .hbm, ⟨87, _⟩ => ⟨S256x1, .i32⟩
  | .hbm, ⟨88, _⟩ => ⟨S_, .i32⟩
  | .hbm, ⟨89, _⟩ => ⟨S256x1, .i32⟩
  | .hbm, ⟨90, _⟩ => ⟨S256x1, .i1⟩
  | .hbm, ⟨91, _⟩ => ⟨S256x1, .i1⟩
  | .hbm, ⟨92, _⟩ => ⟨S_, .i32⟩
  | .hbm, ⟨93, _⟩ => ⟨S256x1, .i32⟩
  | .hbm, ⟨94, _⟩ => ⟨S256x1, .i32⟩
  | .hbm, ⟨95, _⟩ => ⟨S256x1, .i32⟩
  | .hbm, ⟨96, _⟩ => ⟨S_, .i32⟩
  | .hbm, ⟨97, _⟩ => ⟨S256x1, .i32⟩
  | .hbm, ⟨98, _⟩ => ⟨S256x1, .i32⟩
  | .hbm, ⟨99, _⟩ => ⟨S256x768, .i32⟩
  | .hbm, ⟨100, _⟩ => ⟨S256x768, .i32⟩
  | .hbm, ⟨101, _⟩ => ⟨S256x768, .i1⟩
  | .hbm, ⟨102, _⟩ => ⟨S256x768, .i1⟩
  | .hbm, ⟨103, _⟩ => ⟨S1x256x768, .i1⟩
  | .hbm, ⟨104, _⟩ => ⟨S_, .i32⟩
  | .hbm, ⟨105, _⟩ => ⟨S1024, .i32⟩
  | .hbm, ⟨106, _⟩ => ⟨S1024, .i32⟩
  | .hbm, ⟨107, _⟩ => ⟨S1024, .i32⟩
  | .hbm, ⟨108, _⟩ => ⟨S1024x1, .i32⟩
  | .hbm, ⟨109, _⟩ => ⟨S8x1024, .f32⟩
  | .hbm, ⟨110, _⟩ => ⟨S1x8x1x1024, .f32⟩
  | .hbm, ⟨111, _⟩ => ⟨S1x8x256x1024, .f32⟩
  | .hbm, ⟨112, _⟩ => ⟨S8x262144, .f32⟩
  | .hbm, ⟨113, _⟩ => ⟨S8x261888, .f32⟩
  | .hbm, ⟨114, _⟩ => ⟨S8x256x1023, .f32⟩
  | .hbm, ⟨115, _⟩ => ⟨S8x256x768, .f32⟩
  | .hbm, ⟨116, _⟩ => ⟨S_, .f32⟩
  | .hbm, ⟨117, _⟩ => ⟨S_, .f32⟩
  | .hbm, ⟨118, _⟩ => ⟨S8x256x768, .i1⟩
  | .hbm, ⟨119, _⟩ => ⟨S8x256x768, .f32⟩
  | .hbm, ⟨120, _⟩ => ⟨S8x256x768, .f32⟩
  | .hbm, ⟨121, _⟩ => ⟨S4x34x256x512, .bf16⟩
  | .hbm, ⟨122, _⟩ => ⟨S4x34x512x256, .bf16⟩
  | .hbm, ⟨123, _⟩ => ⟨S8x768x256, .f32⟩
  | .hbm, ⟨124, _⟩ => ⟨S32768x512, .bf16⟩
  | .local _ .vmem, ⟨0, _⟩ => ⟨S256x512, .f32⟩
  | .local _ .vmem, ⟨1, _⟩ => ⟨S256x512, .f32⟩
  | .local _ .vmem, ⟨2, _⟩ => ⟨S1x8704x512, .bf16⟩
  | .local _ .vmem, ⟨3, _⟩ => ⟨S1x34x512x256, .bf16⟩
  | .local _ .vmem, ⟨4, _⟩ => ⟨S8x768x256, .f32⟩
  | .local _ .vmem, ⟨5, _⟩ => ⟨S256x512, .bf16⟩
  | .local _ .vmem, ⟨6, _⟩ => ⟨S256x512, .bf16⟩
  | .local _ .vmem, ⟨7, _⟩ => ⟨S8x768x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_c : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_0 : Ref sig .tc := ⟨.hbm, 35, rfl⟩
abbrev main_call2_v12 : Ref sig .tc := ⟨.hbm, 36, rfl⟩
abbrev main_call2_v13 : Ref sig .tc := ⟨.hbm, 37, rfl⟩
abbrev main_v11 : Ref sig .tc := ⟨.hbm, 38, rfl⟩
abbrev main_c_4 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_c : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_0 : Ref sig .tc := ⟨.hbm, 53, rfl⟩
abbrev main_call3_v12 : Ref sig .tc := ⟨.hbm, 54, rfl⟩
abbrev main_call3_v13 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_c_5 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_v6 : Ref sig .tc := ⟨.hbm, 67, rfl⟩
abbrev main_call4_v7 : Ref sig .tc := ⟨.hbm, 68, rfl⟩
abbrev main_call4_v8 : Ref sig .tc := ⟨.hbm, 69, rfl⟩
abbrev main_call4_c : Ref sig .tc := ⟨.hbm, 70, rfl⟩
abbrev main_call4_v9 : Ref sig .tc := ⟨.hbm, 71, rfl⟩
abbrev main_call4_v10 : Ref sig .tc := ⟨.hbm, 72, rfl⟩
abbrev main_call4_v11 : Ref sig .tc := ⟨.hbm, 73, rfl⟩
abbrev main_call4_c_0 : Ref sig .tc := ⟨.hbm, 74, rfl⟩
abbrev main_call4_v12 : Ref sig .tc := ⟨.hbm, 75, rfl⟩
abbrev main_call4_v13 : Ref sig .tc := ⟨.hbm, 76, rfl⟩
abbrev main_v16 : Ref sig .tc := ⟨.hbm, 77, rfl⟩
abbrev main_c_6 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_c : Ref sig .tc := ⟨.hbm, 88, rfl⟩
abbrev main_call5_v9 : Ref sig .tc := ⟨.hbm, 89, rfl⟩
abbrev main_call5_v10 : Ref sig .tc := ⟨.hbm, 90, rfl⟩
abbrev main_call5_v11 : Ref sig .tc := ⟨.hbm, 91, rfl⟩
abbrev main_call5_c_0 : Ref sig .tc := ⟨.hbm, 92, rfl⟩
abbrev main_call5_v12 : Ref sig .tc := ⟨.hbm, 93, rfl⟩
abbrev main_call5_v13 : Ref sig .tc := ⟨.hbm, 94, rfl⟩
abbrev main_v17 : Ref sig .tc := ⟨.hbm, 95, rfl⟩
abbrev main_c_7 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_c_8 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_cst : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0_3 : Index := 0#32
  let arg1 : BitVec 32 := BitVec.ofNat 32 (i 1).val
  let c256_i32 : BitVec 32 := 256#32
  let v0 : BitVec 32 := Scalar.muli arg1 c256_i32
  let v1 : BitVec 32 := v0
  let v18 : Index := Scalar.indexCast v1
  let c0_4 : Index := 0#32
  ![0, v18.toNat, 0]
def k0_off2 (i : grid0.Coords) : Fin 3 → Nat :=
  let c0_30 : Index := 0#32
  let arg1 : BitVec 32 := BitVec.ofNat 32 (i 1).val
  let c256_i32 : BitVec 32 := 256#32
  let v0 : BitVec 32 := Scalar.muli arg1 c256_i32
  let v1 : BitVec 32 := v0
  let v62 : Index := Scalar.indexCast v1
  let c128 : Index := 128#32
  ![0, v62.toNat, 128]
def k0_off3 (i : grid0.Coords) : Fin 3 → Nat :=
  let c0_55 : Index := 0#32
  let arg1 : BitVec 32 := BitVec.ofNat 32 (i 1).val
  let c256_i32 : BitVec 32 := 256#32
  let v0 : BitVec 32 := Scalar.muli arg1 c256_i32
  let v1 : BitVec 32 := v0
  let v106 : Index := Scalar.indexCast v1
  let c256 : Index := 256#32
  ![0, v106.toNat, 256]
def k0_off4 (i : grid0.Coords) : Fin 3 → Nat :=
  let c0_80 : Index := 0#32
  let arg1 : BitVec 32 := BitVec.ofNat 32 (i 1).val
  let c256_i32 : BitVec 32 := 256#32
  let v0 : BitVec 32 := Scalar.muli arg1 c256_i32
  let v1 : BitVec 32 := v0
  let v150 : Index := Scalar.indexCast v1
  let c384 : Index := 384#32
  ![0, v150.toNat, 384]
def k0_off5 (i : grid0.Coords) (c0_i32_103 : BitVec 32) : Fin 3 → Nat :=
  let arg1 : BitVec 32 := BitVec.ofNat 32 (i 1).val
  let c0_i32 : BitVec 32 := 0#32
  let v188 : BitVec 32 := Scalar.minsi arg1 c0_i32
  let v189 : BitVec 32 := Scalar.addi c0_i32_103 v188
  let v190 : Index := Scalar.indexCast v189
  let c0_104 : Index := 0#32
  let c0_105 : Index := 0#32
  ![v190.toNat, 0, 0]
def k0_off6 (i : grid0.Coords) (c0_i32_107 : BitVec 32) : Fin 4 → Nat :=
  let c0_108 : Index := 0#32
  let arg1 : BitVec 32 := BitVec.ofNat 32 (i 1).val
  let v199 : BitVec 32 := Scalar.addi arg1 c0_i32_107
  let v200 : Index := Scalar.indexCast v199
  let c0_109 : Index := 0#32
  let c0_110 : Index := 0#32
  ![0, v200.toNat, 0, 0]
def k0_off7 (i : grid0.Coords) (c0_i32_143 : BitVec 32) : Fin 4 → Nat :=
  let c0_144 : Index := 0#32
  let arg1 : BitVec 32 := BitVec.ofNat 32 (i 1).val
  let v263 : BitVec 32 := Scalar.addi arg1 c0_i32_143
  let v264 : Index := Scalar.indexCast v263
  let c128_145 : Index := 128#32
  let c0_146 : Index := 0#32
  ![0, v264.toNat, 128, 0]
def k0_off8 (i : grid0.Coords) (c0_i32_179 : BitVec 32) : Fin 4 → Nat :=
  let c0_180 : Index := 0#32
  let arg1 : BitVec 32 := BitVec.ofNat 32 (i 1).val
  let v327 : BitVec 32 := Scalar.addi arg1 c0_i32_179
  let v328 : Index := Scalar.indexCast v327
  let c256_181 : Index := 256#32
  let c0_182 : Index := 0#32
  ![0, v328.toNat, 256, 0]
def k0_off9 (i : grid0.Coords) (c0_i32_215 : BitVec 32) : Fin 4 → Nat :=
  let c0_216 : Index := 0#32
  let arg1 : BitVec 32 := BitVec.ofNat 32 (i 1).val
  let v391 : BitVec 32 := Scalar.addi arg1 c0_i32_215
  let v392 : Index := Scalar.indexCast v391
  let c384_217 : Index := 384#32
  let c0_218 : Index := 0#32
  ![0, v392.toNat, 384, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8704x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x34x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | _ => none
-- ==== BandRefIdeal.lean ====
abbrev S32768x512 : Shape := ⟨2, ![32768, 512]⟩
abbrev S1x8x257 : Shape := ⟨3, ![1, 8, 257]⟩
abbrev S4x128x64x8x64 : Shape := ⟨5, ![4, 128, 64, 8, 64]⟩
abbrev S_ : Shape := ⟨0, ![]⟩
abbrev S4x136x64x8x64 : Shape := ⟨5, ![4, 136, 64, 8, 64]⟩
abbrev S4x128x576x8x64 : Shape := ⟨5, ![4, 128, 576, 8, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S8x257 : Shape := ⟨2, ![8, 257]⟩
abbrev S64x576x1 : Shape := ⟨3, ![64, 576, 1]⟩
abbrev S8x64x576 : Shape := ⟨3, ![8, 64, 576]⟩
abbrev S128 : Shape := ⟨1, ![128]⟩
abbrev S128x1 : Shape := ⟨2, ![128, 1]⟩
abbrev S128x576 : Shape := ⟨2, ![128, 576]⟩
abbrev S4x128x8x64x576 : Shape := ⟨5, ![4, 128, 8, 64, 576]⟩
abbrev S1x128x1x1x576 : Shape := ⟨5, ![1, 128, 1, 1, 576]⟩
abbrev S1x1x8x64x576 : Shape := ⟨5, ![1, 1, 8, 64, 576]⟩
abbrev S4x128x8x64 : Shape := ⟨4, ![4, 128, 8, 64]⟩
abbrev S4x128x8x64x1 : Shape := ⟨5, ![4, 128, 8, 64, 1]⟩
abbrev S4x128x8x64x64 : Shape := ⟨5, ![4, 128, 8, 64, 64]⟩

abbrev nBuf : Space → Nat
  | .hbm => 122
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S1x8x257, .f32⟩
  | .hbm, ⟨4, _⟩ => ⟨S4x128x64x8x64, .f32⟩
  | .hbm, ⟨5, _⟩ => ⟨S_, .i32⟩
  | .hbm, ⟨6, _⟩ => ⟨S_, .f32⟩
  | .hbm, ⟨7, _⟩ => ⟨S4x136x64x8x64, .f32⟩
  | .hbm, ⟨8, _⟩ => ⟨S4x128x64x8x64, .f32⟩
  | .hbm, ⟨9, _⟩ => ⟨S_, .i32⟩
  | .hbm, ⟨10, _⟩ => ⟨S_, .f32⟩
  | .hbm, ⟨11, _⟩ => ⟨S4x136x64x8x64, .f32⟩
  | .hbm, ⟨12, _⟩ => ⟨S4x128x64x8x64, .f32⟩
  | .hbm, ⟨13, _⟩ => ⟨S4x128x64x8x64, .f32⟩
  | .hbm, ⟨14, _⟩ => ⟨S4x128x64x8x64, .f32⟩
  | .hbm, ⟨15, _⟩ => ⟨S4x128x64x8x64, .f32⟩
  | .hbm, ⟨16, _⟩ => ⟨S4x128x64x8x64, .f32⟩
  | .hbm, ⟨17, _⟩ => ⟨S4x128x64x8x64, .f32⟩
  | .hbm, ⟨18, _⟩ => ⟨S4x128x64x8x64, .f32⟩
  | .hbm, ⟨19, _⟩ => ⟨S4x128x64x8x64, .f32⟩
  | .hbm, ⟨20, _⟩ => ⟨S4x128x64x8x64, .f32⟩
  | .hbm, ⟨21, _⟩ => ⟨S4x128x576x8x64, .f32⟩
  | .hbm, ⟨22, _⟩ => ⟨S4x128x64x8x64, .f32⟩
  | .hbm, ⟨23, _⟩ => ⟨S4x128x64x8x64, .f32⟩
  | .hbm, ⟨24, _⟩ => ⟨S4x128x64x8x64, .f32⟩
  | .hbm, ⟨25, _⟩ => ⟨S4x128x64x8x64, .f32⟩
  | .hbm, ⟨26, _⟩ => ⟨S4x128x64x8x64, .f32⟩
  | .hbm, ⟨27, _⟩ => ⟨S4x128x64x8x64, .f32⟩
  | .hbm, ⟨28, _⟩ => ⟨S4x128x64x8x64, .f32⟩
  | .hbm, ⟨29, _⟩ => ⟨S4x128x64x8x64, .f32⟩
  | .hbm, ⟨30, _⟩ => ⟨S4x128x64x8x64, .f32⟩
  | .hbm, ⟨31, _⟩ => ⟨S4x128x576x8x64, .f32⟩
  | .hbm, ⟨32, _⟩ => ⟨S64, .i32⟩
  | .hbm, ⟨33, _⟩ => ⟨S576, .i32⟩
  | .hbm, ⟨34, _⟩ => ⟨S64x1, .i32⟩
  | .hbm, ⟨35, _⟩ => ⟨S_, .i32⟩
  | .hbm, ⟨36, _⟩ => ⟨S64x1, .i32⟩
  | .hbm, ⟨37, _⟩ => ⟨S64x1, .i32⟩
  | .hbm, ⟨38, _⟩ => ⟨S1x576, .i32⟩
  | .hbm, ⟨39, _⟩ => ⟨S64x576, .i32⟩
  | .hbm, ⟨40, _⟩ => ⟨S64x576, .i32⟩
  | .hbm, ⟨41, _⟩ => ⟨S64x576, .i32⟩
  | .hbm, ⟨42, _⟩ => ⟨S8x257, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S64x576, .i32⟩
  | .hbm, ⟨47, _⟩ => ⟨S64x576, .i32⟩
  | .hbm, ⟨48, _⟩ => ⟨S_, .i32⟩
  | .hbm, ⟨49, _⟩ => ⟨S64x576, .i32⟩
  | .hbm, ⟨50, _⟩ => ⟨S64x576, .i32⟩
  | .hbm, ⟨51, _⟩ => ⟨S_, .i32⟩
  | .hbm, ⟨52, _⟩ => ⟨S64x576, .i32⟩
  | .hbm, ⟨53, _⟩ => ⟨S64x576, .i32⟩
  | .hbm, ⟨54, _⟩ => ⟨S_, .i32⟩
  | .hbm, ⟨55, _⟩ => ⟨S64x576, .i32⟩
  | .hbm, ⟨56, _⟩ => ⟨S64x576, .i1⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S64x576, .i32⟩
  | .hbm, ⟨61, _⟩ => ⟨S64x576x1, .i32⟩
  | .hbm, ⟨62, _⟩ => ⟨S8x64x576, .f32⟩
  | .hbm, ⟨63, _⟩ => ⟨S128, .i32⟩
  | .hbm, ⟨64, _⟩ => ⟨S128x1, .i32⟩
  | .hbm, ⟨65, _⟩ => ⟨S1x576, .i32⟩
  | .hbm, ⟨66, _⟩ => ⟨S_, .i32⟩
  | .hbm, ⟨67, _⟩ => ⟨S_, .i32⟩
  | .hbm, ⟨68, _⟩ => ⟨S1x576, .i32⟩
  | .hbm, ⟨69, _⟩ => ⟨S1x576, .i32⟩
  | .hbm, ⟨70, _⟩ => ⟨S1x576, .i32⟩
  | .hbm, ⟨71, _⟩ => ⟨S_, .i32⟩
  | .hbm, ⟨72, _⟩ => ⟨S1x576, .i32⟩
  | .hbm, ⟨73, _⟩ => ⟨S1x576, .i1⟩
  | .hbm, ⟨74, _⟩ => ⟨S1x576, .i32⟩
  | .hbm, ⟨75, _⟩ => ⟨S1x576, .i32⟩
  | .hbm, ⟨76, _⟩ => ⟨S_, .i32⟩
  | .hbm, ⟨77, _⟩ => ⟨S1x576, .i32⟩
  | .hbm, ⟨78, _⟩ => ⟨S1x576, .i1⟩
  | .hbm, ⟨79, _⟩ => ⟨S1x576, .i1⟩
  | .hbm, ⟨80, _⟩ => ⟨S_, .i32⟩
  | .hbm, ⟨81, _⟩ => ⟨S1x576, .i32⟩
  | .hbm, ⟨82, _⟩ => ⟨S1x576, .i32⟩
  | .hbm, ⟨83, _⟩ => ⟨S1x576, .i32⟩
  | .hbm, ⟨84, _⟩ => ⟨S128x576, .i32⟩
  | .hbm, ⟨85, _⟩ => ⟨S128x576, .i32⟩
  | .hbm, ⟨86, _⟩ => ⟨S128x576, .i32⟩
  | .hbm, ⟨87, _⟩ => ⟨S_, .i32⟩
  | .hbm, ⟨88, _⟩ => ⟨S128x576, .i32⟩
  | .hbm, ⟨89, _⟩ => ⟨S128x576, .i1⟩
  | .hbm, ⟨90, _⟩ => ⟨S4x128x64x8x64, .f32⟩
  | .hbm, ⟨91, _⟩ => ⟨S4x128x8x64x576, .f32⟩
  | .hbm, ⟨92, _⟩ => ⟨S_, .f32⟩
  | .hbm, ⟨93, _⟩ => ⟨S4x128x8x64x576, .f32⟩
  | .hbm, ⟨94, _⟩ => ⟨S4x128x8x64x576, .f32⟩
  | .hbm, ⟨95, _⟩ => ⟨S1x128x1x1x576, .i1⟩
  | .hbm, ⟨96, _⟩ => ⟨S1x1x8x64x576, .f32⟩
  | .hbm, ⟨97, _⟩ => ⟨S4x128x8x64x576, .f32⟩
  | .hbm, ⟨98, _⟩ => ⟨S4x128x8x64x576, .f32⟩
  | .hbm, ⟨99, _⟩ => ⟨S_, .f32⟩
  | .hbm, ⟨100, _⟩ => ⟨S_, .f32⟩
  | .hbm, ⟨101, _⟩ => ⟨S4x128x8x64x576, .i1⟩
  | .hbm, ⟨102, _⟩ => ⟨S4x128x8x64x576, .f32⟩
  | .hbm, ⟨103, _⟩ => ⟨S4x128x8x64x576, .f32⟩
  | .hbm, ⟨104, _⟩ => ⟨S_, .f32⟩
  | .hbm, ⟨105, _⟩ => ⟨S4x128x8x64, .f32⟩
  | .hbm, ⟨106, _⟩ => ⟨S_, .f32⟩
  | .hbm, ⟨107, _⟩ => ⟨S4x128x8x64, .f32⟩
  | .hbm, ⟨108, _⟩ => ⟨S4x128x8x64, .f32⟩
  | .hbm, ⟨109, _⟩ => ⟨S4x128x8x64x1, .f32⟩
  | .hbm, ⟨110, _⟩ => ⟨S4x128x8x64x576, .f32⟩
  | .hbm, ⟨111, _⟩ => ⟨S4x128x8x64x576, .f32⟩
  | .hbm, ⟨112, _⟩ => ⟨S4x128x8x64x576, .f32⟩
  | .hbm, ⟨113, _⟩ => ⟨S_, .f32⟩
  | .hbm, ⟨114, _⟩ => ⟨S4x128x8x64, .f32⟩
  | .hbm, ⟨115, _⟩ => ⟨S4x128x8x64x1, .f32⟩
  | .hbm, ⟨116, _⟩ => ⟨S4x128x8x64x576, .f32⟩
  | .hbm, ⟨117, _⟩ => ⟨S4x128x8x64x576, .f32⟩
  | .hbm, ⟨118, _⟩ => ⟨S4x128x8x64x64, .f32⟩
  | .hbm, ⟨119, _⟩ => ⟨S4x128x64x8x64, .f32⟩
  | .hbm, ⟨120, _⟩ => ⟨S32768x512, .f32⟩
  | .hbm, ⟨121, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_2 : Ref sig .tc := ⟨.hbm, 43, rfl⟩
abbrev main_c_3 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_c : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_0 : Ref sig .tc := ⟨.hbm, 80, rfl⟩
abbrev main_call3_v12 : Ref sig .tc := ⟨.hbm, 81, rfl⟩
abbrev main_call3_v13 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_8 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_9 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v61 : Ref sig .tc := ⟨.hbm, 103, rfl⟩
abbrev main_cst_10 : Ref sig .tc := ⟨.hbm, 104, rfl⟩
abbrev main_v62 : Ref sig .tc := ⟨.hbm, 105, rfl⟩
abbrev main_cst_11 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_12 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩

abbrev nD : Nat := 1
abbrev τ : Topo := Topo.v7x

variable {F : FTy → Type} [FloatOps F]
-- ==== Out.lean ====
abbrev S32768x1024 : Shape := ⟨2, ![32768, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S256x2816 : Shape := ⟨2, ![256, 2816]⟩

abbrev nBuf : Space → Nat
  | .hbm => 21
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S32768x1024 : Shape := ⟨2, ![32768, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S32768x2816 : Shape := ⟨2, ![32768, 2816]⟩
abbrev S2816x1024 : Shape := ⟨2, ![2816, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S1024x1024, .f32⟩
  | .hbm, ⟨13, _⟩ => ⟨S32768x1024, .f32⟩
  | .hbm, ⟨14, _⟩ => ⟨S32768x1024, .f32⟩
  | .hbm, ⟨15, _⟩ => ⟨S1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S1024x2816, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S_, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S1024x2816, .f32⟩
  | .hbm, ⟨44, _⟩ => ⟨S32768x2816, .f32⟩
  | .hbm, ⟨45, _⟩ => ⟨S32768x2816, .f32⟩
  | .hbm, ⟨46, _⟩ => ⟨S2816x1024, .f32⟩
  | .hbm, ⟨47, _⟩ => ⟨S32768x1024, .f32⟩
  | .hbm, ⟨48, _⟩ => ⟨S_, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S1x1024, .f32⟩
  | .hbm, ⟨66, _⟩ => ⟨S32768x1024, .f32⟩
  | .hbm, ⟨67, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Inp.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3368 : Shape := ⟨3, ![1, 1024, 3368]⟩
abbrev S128 : Shape := ⟨1, ![128]⟩
abbrev S1024x2816 : Shape := ⟨2, ![1024, 2816]⟩
abbrev S2816x1024 : Shape := ⟨2, ![2816, 1024]⟩
abbrev S1024x3368 : Shape := ⟨2, ![1024, 3368]⟩
abbrev S_ : Shape := ⟨0, ![]⟩
abbrev S1024x3456 : Shape := ⟨2, ![1024, 3456]⟩
abbrev S1024 : Shape := ⟨1, ![1024]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x128 : Shape := ⟨2, ![1, 128]⟩
abbrev S16 : Shape := ⟨1, ![16]⟩
abbrev S1x16 : Shape := ⟨2, ![1, 16]⟩
abbrev S8192x16 : Shape := ⟨2, ![8192, 16]⟩
abbrev S1x8192x1x16 : Shape := ⟨4, ![1, 8192, 1, 16]⟩
abbrev S1x8192x8x16 : Shape := ⟨4, ![1, 8192, 8, 16]⟩
abbrev S32768x512 : Shape := ⟨2, ![32768, 512]⟩
abbrev S2048x512 : Shape := ⟨2, ![2048, 512]⟩
abbrev S32768x256 : Shape := ⟨2, ![32768, 256]⟩
abbrev S32768x128 : Shape := ⟨2, ![32768, 128]⟩
abbrev S256x1024 : Shape := ⟨2, ![256, 1024]⟩
abbrev S256x128 : Shape := ⟨2, ![256, 128]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x2816 : Shape := ⟨2, ![256, 2816]⟩
abbrev S1024x512 : Shape := ⟨2, ![1024, 512]⟩
abbrev S1024x256 : Shape := ⟨2, ![1024, 256]⟩
abbrev S1024x128 : Shape := ⟨2, ![1024, 128]⟩

abbrev nBuf : Space → Nat
  | .hbm => 157
  | .vmem => 48
  | .smem => 0
  | _ => 0

abbrev hbmTy0_0 (i : Nat) : BufTy := match i % 128 with
  | 0 => ⟨S32768x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x1024, .f32⟩
  | 6 => ⟨S1x1024x3368, .f32⟩
  | 7 => ⟨S128, .i1⟩
  | 8 => ⟨S128, .i1⟩
  | 9 => ⟨S128, .i1⟩
  | 10 => ⟨S128, .i1⟩
  | 11 => ⟨S128, .i1⟩
  | 12 => ⟨S128, .i1⟩
  | 13 => ⟨S1024x2816, .f32⟩
  | 14 => ⟨S1024x2816, .bf16⟩
  | 15 => ⟨S1024x2816, .f32⟩
  | 16 => ⟨S1024x2816, .bf16⟩
  | 17 => ⟨S2816x1024, .f32⟩
  | 18 => ⟨S2816x1024, .bf16⟩
  | 19 => ⟨S1024x3368, .f32⟩
  | 20 => ⟨S_, .i32⟩
  | 21 => ⟨S_, .f32⟩
  | 22 => ⟨S1024x3456, .f32⟩
  | 23 => ⟨S1024x3456, .bf16⟩
  | 24 => ⟨S1024, .f32⟩
  | 25 => ⟨S1x1024, .f32⟩
  | 26 => ⟨S1024, .f32⟩
  | 27 => ⟨S1x1024, .f32⟩
  | 28 => ⟨S8192, .i32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S8192, .f32⟩
  | 38 => ⟨S8192x1, .f32⟩
  | 39 => ⟨S1x32, .f32⟩
  | 40 => ⟨S8192x32, .f32⟩
  | 41 => ⟨S8192x32, .f32⟩
  | 42 => ⟨S8192x32, .f32⟩
  | 43 => ⟨S8192x32, .f32⟩
  | 44 => ⟨S1x8192x1x32, .f32⟩
  | 45 => ⟨S1x8192x4x32, .f32⟩
  | 46 => ⟨S8192x128, .f32⟩
  | 47 => ⟨S8192x32, .f32⟩
  | 48 => ⟨S1x8192x1x32, .f32⟩
  | 49 => ⟨S1x8192x4x32, .f32⟩
  | 50 => ⟨S8192x128, .f32⟩
  | 51 => ⟨S1x128, .i1⟩
  | 52 => ⟨S_, .f32⟩
  | 53 => ⟨S_, .f32⟩
  | 54 => ⟨S8192x128, .i1⟩
  | 55 => ⟨S8192x128, .f32⟩
  | 56 => ⟨S8192x128, .f32⟩
  | 57 => ⟨S1x128, .i1⟩
  | 58 => ⟨S1x128, .i1⟩
  | 59 => ⟨S8192x128, .f32⟩
  | 60 => ⟨S8192x128, .i1⟩
  | 61 => ⟨S8192x128, .f32⟩
  | 62 => ⟨S_, .f32⟩
  | 63 => ⟨S_, .f32⟩
  | 64 => ⟨S8192x128, .i1⟩
  | 65 => ⟨S8192x128, .f32⟩
  | 66 => ⟨S8192x128, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S8192, .f32⟩
  | 76 => ⟨S8192x1, .f32⟩
  | 77 => ⟨S1x16, .f32⟩
  | 78 => ⟨S8192x16, .f32⟩
  | 79 => ⟨S8192x16, .f32⟩
  | 80 => ⟨S8192x16, .f32⟩
  | 81 => ⟨S8192x16, .f32⟩
  | 82 => ⟨S1x8192x1x16, .f32⟩
  | 83 => ⟨S1x8192x8x16, .f32⟩
  | 84 => ⟨S8192x128, .f32⟩
  | 85 => ⟨S8192x16, .f32⟩
  | 86 => ⟨S1x8192x1x16, .f32⟩
  | 87 => ⟨S1x8192x8x16, .f32⟩
  | 88 => ⟨S8192x128, .f32⟩
  | 89 => ⟨S1x128, .i1⟩
  | 90 => ⟨S_, .f32⟩
  | 91 => ⟨S_, .f32⟩
  | 92 => ⟨S8192x128, .i1⟩
  | 93 => ⟨S8192x128, .f32⟩
  | 94 => ⟨S8192x128, .f32⟩
  | 95 => ⟨S1x128, .i1⟩
  | 96 => ⟨S1x128, .i1⟩
  | 97 => ⟨S8192x128, .f32⟩
  | 98 => ⟨S8192x128, .i1⟩
  | 99 => ⟨S8192x128, .f32⟩
  | 100 => ⟨S_, .f32⟩
  | 101 => ⟨S_, .f32⟩
  | 102 => ⟨S8192x128, .i1⟩
  | 103 => ⟨S8192x128, .f32⟩
  | 104 => ⟨S8192x128, .f32⟩
  | 105 => ⟨S16, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S8192, .f32⟩
  | 114 => ⟨S8192x1, .f32⟩
  | 115 => ⟨S1x16, .f32⟩
  | 116 => ⟨S8192x16, .f32⟩
  | 117 => ⟨S8192x16, .f32⟩
  | 118 => ⟨S8192x16, .f32⟩
  | 119 => ⟨S8192x16, .f32⟩
  | 120 => ⟨S1x8192x1x16, .f32⟩
  | 121 => ⟨S1x8192x8x16, .f32⟩
  | 122 => ⟨S8192x128, .f32⟩
  | 123 => ⟨S8192x16, .f32⟩
  | 124 => ⟨S1x8192x1x16, .f32⟩
  | 125 => ⟨S1x8192x8x16, .f32⟩
  | 126 => ⟨S8192x128, .f32⟩
  | 127 => ⟨S1x128, .i1⟩
  | _ => ⟨S32768x1024, .f32⟩

abbrev hbmTy0_1 (i : Nat) : BufTy := match i % 128 with
  | 0 => ⟨S_, .f32⟩
  | 1 => ⟨S_, .f32⟩
  | 2 => ⟨S8192x128, .i1⟩
  | 3 => ⟨S8192x128, .f32⟩
  | 4 => ⟨S8192x128, .f32⟩
  | 5 => ⟨S1x128, .i1⟩
  | 6 => ⟨S1x128, .i1⟩
  | 7 => ⟨S8192x128, .f32⟩
  | 8 => ⟨S8192x128, .i1⟩
  | 9 => ⟨S8192x128, .f32⟩
  | 10 => ⟨S_, .f32⟩
  | 11 => ⟨S_, .f32⟩
  | 12 => ⟨S8192x128, .i1⟩
  | 13 => ⟨S8192x128, .f32⟩
  | 14 => ⟨S8192x128, .f32⟩
  | 15 => ⟨S32768x1024, .f32⟩
  | 16 => ⟨S32768x512, .bf16⟩
  | 17 => ⟨S32768x512, .bf16⟩
  | 18 => ⟨S32768x512, .bf16⟩
  | 19 => ⟨S32768x512, .bf16⟩
  | 20 => ⟨S32768x512, .bf16⟩
  | 21 => ⟨S32768x512, .bf16⟩
  | 22 => ⟨S2048x512, .f32⟩
  | 23 => ⟨S2048x512, .f32⟩
  | 24 => ⟨S32768x512, .f32⟩
  | 25 => ⟨S32768x512, .f32⟩
  | 26 => ⟨S32768x256, .bf16⟩
  | 27 => ⟨S32768x128, .f32⟩
  | 28 => ⟨S32768x128, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x3456, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x1024, .f32⟩
  | .local _ .vmem, ⟨21, _⟩ => ⟨S256x1024, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .f32⟩
  | .local _ .vmem, ⟨41, _⟩ => ⟨S256x512, .f32⟩
  | .local _ .vmem, ⟨42, _⟩ => ⟨S256x256, .bf16⟩
  | .local _ .vmem, ⟨43, _⟩ => ⟨S256x256, .bf16⟩
  | .local _ .vmem, ⟨44, _⟩ => ⟨S256x128, .f32⟩
  | .local _ .vmem, ⟨45, _⟩ => ⟨S256x128, .f32⟩
  | .local _ .vmem, ⟨46, _⟩ => ⟨S256x128, .bf16⟩
  | .local _ .vmem, ⟨47, _⟩ => ⟨S256x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_5 : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call2_v0 : Ref sig .tc := ⟨.hbm, 60, rfl⟩
abbrev main_v39 : Ref sig .tc := ⟨.hbm, 61, rfl⟩
abbrev main_cst_8 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call5_v0 : Ref sig .tc := ⟨.hbm, 98, rfl⟩
abbrev main_v66 : Ref sig .tc := ⟨.hbm, 99, rfl⟩
abbrev main_cst_12 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_13 : Ref sig .tc := ⟨.hbm, 107, rfl⟩
abbrev main_v70 : Ref sig .tc := ⟨.hbm, 108, rfl⟩
abbrev main_v71 : Ref sig .tc := ⟨.hbm, 109, rfl⟩
abbrev main_cst_14 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_call7_v0 : Ref sig .tc := ⟨.hbm, 129, rfl⟩
abbrev main_call7_v1 : Ref sig .tc := ⟨.hbm, 130, rfl⟩
abbrev main_call7_v2 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_call8_v0 : Ref sig .tc := ⟨.hbm, 136, rfl⟩
abbrev main_v93 : Ref sig .tc := ⟨.hbm, 137, rfl⟩
abbrev main_cst_16 : Ref sig .tc := ⟨.hbm, 138, rfl⟩
abbrev main_call9_v0 : Ref sig .tc := ⟨.hbm, 139, rfl⟩
abbrev main_call9_v1 : Ref sig .tc := ⟨.hbm, 140, rfl⟩
abbrev main_call9_v2 : Ref sig .tc := ⟨.hbm, 141, rfl⟩
abbrev main_v94 : Ref sig .tc := ⟨.hbm, 142, rfl⟩
abbrev main_v95_0 : Ref sig .tc := ⟨.hbm, 143, rfl⟩
abbrev main_v95_1 : Ref sig .tc := ⟨.hbm, 144, rfl⟩
abbrev main_v95_2 : Ref sig .tc := ⟨.hbm, 145, rfl⟩
abbrev main_v95_3 : Ref sig .tc := ⟨.hbm, 146, rfl⟩
abbrev main_v95_4 : Ref sig .tc := ⟨.hbm, 147, rfl⟩
abbrev main_v95_5 : Ref sig .tc := ⟨.hbm, 148, rfl⟩
abbrev main_v95_6 : Ref sig .tc := ⟨.hbm, 149, rfl⟩
abbrev main_v95_7 : Ref sig .tc := ⟨.hbm, 150, rfl⟩
abbrev main_v95_8 : Ref sig .tc := ⟨.hbm, 151, rfl⟩
abbrev main_v95_9 : Ref sig .tc := ⟨.hbm, 152, rfl⟩
abbrev main_v95_10 : Ref sig .tc := ⟨.hbm, 153, rfl⟩
abbrev main_v95_11 : Ref sig .tc := ⟨.hbm, 154, rfl⟩
abbrev main_v95_12 : Ref sig .tc := ⟨.hbm, 155, rfl⟩
abbrev main_v95_13 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg26_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45
abbrev cc0_sem26_0 : DmaSem sig := 46
abbrev cc0_sem26_1 : DmaSem sig := 47

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c32_i32_4 : BitVec 32 := 32#32
  let c0_i32_5 : BitVec 32 := 0#32
  let v18 : BitVec 1 := Scalar.cmpi .eq c32_i32_4 c0_i32_5
  let c1_i32_6 : BitVec 32 := 1#32
  let v19 : BitVec 32 := Scalar.select v18 c1_i32_6 c32_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c30_i32 : BitVec 32 := 30#32
  let v28 : BitVec 32 := Scalar.subi v27 c30_i32
  let c0_i32_10 : BitVec 32 := 0#32
  let v29 : BitVec 32 := Scalar.maxsi v28 c0_i32_10
  let v30 : BitVec 32 := Scalar.addi v17 v29
  let c0_i32_11 : BitVec 32 := 0#32
  let c0_i32_12 : BitVec 32 := 0#32
  ![v30.toNat, c0_i32_11.toNat]

def cc0_transform_21 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c32_i32_4 : BitVec 32 := 32#32
  let c0_i32_5 : BitVec 32 := 0#32
  let v18 : BitVec 1 := Scalar.cmpi .eq c32_i32_4 c0_i32_5
  let c1_i32_6 : BitVec 32 := 1#32
  let v19 : BitVec 32 := Scalar.select v18 c1_i32_6 c32_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c30_i32 : BitVec 32 := 30#32
  let v28 : BitVec 32 := Scalar.subi v27 c30_i32
  let c0_i32_10 : BitVec 32 := 0#32
  let v29 : BitVec 32 := Scalar.maxsi v28 c0_i32_10
  let v30 : BitVec 32 := Scalar.addi v17 v29
  let c0_i32_11 : BitVec 32 := 0#32
  let c0_i32_12 : BitVec 32 := 0#32
  ![v30.toNat, c0_i32_11.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== InpRefIdeal.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3368 : Shape := ⟨3, ![1, 1024, 3368]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S32768x2816 : Shape := ⟨2, ![32768, 2816]⟩
abbrev S2816x1024 : Shape := ⟨2, ![2816, 1024]⟩
abbrev S1024x3368 : Shape := ⟨2, ![1024, 3368]⟩
abbrev S32768x3368 : Shape := ⟨2, ![32768, 3368]⟩
abbrev S32768x512 : Shape := ⟨2, ![32768, 512]⟩
abbrev S4x8192x512 : Shape := ⟨3, ![4, 8192, 512]⟩
abbrev S4x512x512 : Shape := ⟨3, ![4, 512, 512]⟩
abbrev S2048x512 : Shape := ⟨2, ![2048, 512]⟩

abbrev nBuf : Space → Nat
  | .hbm => 72
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x3368, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1024x2816, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S1024x2816, .f32⟩
  | .hbm, ⟨36, _⟩ => ⟨S32768x2816, .f32⟩
  | .hbm, ⟨37, _⟩ => ⟨S32768x2816, .f32⟩
  | .hbm, ⟨38, _⟩ => ⟨S2816x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S1024x3368, .f32⟩
  | .hbm, ⟨62, _⟩ => ⟨S32768x3368, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S4x8192x512, .f32⟩
  | .hbm, ⟨67, _⟩ => ⟨S4x512x512, .f32⟩
  | .hbm, ⟨68, _⟩ => ⟨S2048x512, .f32⟩
  | .hbm, ⟨69, _⟩ => ⟨S4x8192x512, .f32⟩
  | .hbm, ⟨70, _⟩ => ⟨S4x512x512, .f32⟩
  | .hbm, ⟨71, _⟩ => ⟨S2048x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.Score.lean ====
module

public import proofs.«01_k».proof.Proof.Gen.BandIdeal.Value
public import Idealize.ShloMosaic.Lib.Pipeline.ValueKit
public import Idealize.ShloMosaic.Lib.Pipeline.ReadBack
public import Idealize.ShloMosaic.Lib.Pointwise
public import Mathlib.Algebra.BigOperators.Fin

@[expose] public section

set_option maxRecDepth 16384

noncomputable section

open Idealize.ShloMosaic Idealize.ShloMosaic.TcCoe Idealize.SL.Sem
open Idealize.ShloMosaic.Pipeline (Dat)

namespace Cert.BandIdeal.Score

open Cert.BandIdeal Cert.BandIdeal.Gen

/-- The word of the float `-inf` reads as the least extended real. -/
theorem neg_inf : Ideal.ofBits .f32 0xFF800000#32 = (⊥ : EReal) := by
  simp [Ideal.ofBits, Ideal.ieee]

theorem lane_lo : ∀ x : Fin 128, IntOp.cmpi .slt (BitVec.ofNat 32 (x : ℕ)) 64#32 = BitVec.ofBool (decide ((x : ℕ) < 64)) := by
  decide +kernel

theorem lane_hi : ∀ x : Fin 128, IntOp.cmpi .sge (BitVec.ofNat 32 (x : ℕ)) 64#32 = BitVec.ofBool (decide (64 ≤ (x : ℕ))) := by
  decide +kernel

theorem select_ofBool {α : Type} (p : Prop) [Decidable p] (a b : α) :
    Scalar.select (BitVec.ofBool (decide p)) a b = if p then a else b := by
  by_cases h : p <;> simp [Scalar.select, h]

/-- A sum over 128 lanes of which only the first 64 are kept. -/
theorem sum_lo (f : Fin 128 → EReal) :
    (∑ x : Fin 128, Scalar.select (IntOp.cmpi .slt (BitVec.ofNat 32 (x : ℕ)) 64#32) (f x) 0)
      = ∑ d : Fin 64, f ⟨(d : ℕ), by omega⟩ := by
  rw [Finset.sum_congr rfl fun x _ => by rw [lane_lo x, select_ofBool]]
  refine (Fin.sum_univ_add (a := 64) (b := 64) (fun x : Fin 128 => if (x : ℕ) < 64 then f x else 0)).trans ?_
  have h2 : (∑ i : Fin 64, (fun x : Fin 128 => if (x : ℕ) < 64 then f x else 0) (Fin.natAdd 64 i)) = 0 :=
    Finset.sum_eq_zero fun i _ => if_neg (by simp)
  rw [h2, add_zero]
  exact Finset.sum_congr rfl fun d _ => if_pos d.isLt

/-- A sum over 128 lanes of which only the last 64 are kept. -/
theorem sum_hi (f : Fin 128 → EReal) :
    (∑ x : Fin 128, Scalar.select (IntOp.cmpi .sge (BitVec.ofNat 32 (x : ℕ)) 64#32) (f x) 0)
      = ∑ d : Fin 64, f ⟨64 + (d : ℕ), by omega⟩ := by
  rw [Finset.sum_congr rfl fun x _ => by rw [lane_hi x, select_ofBool]]
  refine (Fin.sum_univ_add (a := 64) (b := 64) (fun x : Fin 128 => if 64 ≤ (x : ℕ) then f x else 0)).trans ?_
  have h2 : (∑ i : Fin 64, (fun x : Fin 128 => if 64 ≤ (x : ℕ) then f x else 0) (Fin.castAdd 64 i)) = 0 :=
    Finset.sum_eq_zero fun i _ => if_neg (by simp)
  rw [h2, zero_add]
  exact Finset.sum_congr rfl fun d _ => if_pos (by simp)

theorem first_word : ∀ a : Fin 32, (Scalar.subi 512#32 (Scalar.muli (BitVec.ofNat 32 (a : ℕ)) 256#32)).toInt = 512 - 256 * (a : ℤ) := by
  decide +kernel

theorem row_word : ∀ w : Fin 768, (BitVec.ofNat 32 (w : ℕ)).toInt = (w : ℤ) := by
  decide +kernel

/-- The mask of the window's rows that stand at or after the first position of the sequence. -/
theorem started (i : grid0.Coords) (w : Fin 768) :
    IntOp.cmpi .sge (BitVec.ofNat 32 (w : ℕ)) (Scalar.subi 512#32 (Scalar.muli (BitVec.ofNat 32 (i 1 : ℕ)) 256#32))
      = BitVec.ofBool (decide (512 ≤ (w : ℕ) + 256 * (i 1 : ℕ))) := by
  have h1 := first_word (i 1)
  have h2 := row_word w
  refine congrArg BitVec.ofBool (decide_eq_decide.mpr ?_)
  change (Scalar.subi 512#32 (Scalar.muli (BitVec.ofNat 32 (i 1 : ℕ)) 256#32)).toInt ≤ (BitVec.ofNat 32 (w : ℕ)).toInt ↔ _
  rw [h2]
  have h1' : (Scalar.subi 512#32 (Scalar.muli (BitVec.ofNat 32 (i 1 : ℕ)) 256#32)).toInt = 512 - 256 * ((i 1 : ℕ) : ℤ) := h1
  omega

variable (i : grid0.Coords) (q : FVec Ideal S256x512 .f32) (k : FVec Ideal S1x768x128 .bf16)
  (b : FVec Ideal S1x768x256 .f32) (w : Fin 768) (r : Fin 256)

/-- The reciprocal of the natural logarithm of two. -/
def cL : EReal := (((Real.log 2)⁻¹ : ℝ) : EReal)

/-- The scale of the queries: an eighth of that. -/
def cQ : EReal := (((1 / 8) * (Real.log 2)⁻¹ : ℝ) : EReal)

theorem named_cL : Named.named (F := Ideal) κ "log2e" (φ := .f32) 0x3FB8AA3B#32 = cL := rfl

theorem named_cQ : Named.named (F := Ideal) κ "scale_log2e" (φ := .f32) 0x3E38AA3B#32 = cQ := rfl

/-- One head's scores at a tile: the products of the head's 64 lanes with the scaled queries, plus the head's scaled table, and
    `-inf` before the first position. `z` is the lane of the window the head begins at, `h` that of the queries. -/
def score (z h : ℕ) (hz : z + 64 ≤ 128) (hh : h + 64 ≤ 512) : EReal :=
  if 512 ≤ (w : ℕ) + 256 * (i 1 : ℕ) then
    (∑ d : Fin 64, k (ix3 0 w ⟨z + (d : ℕ), by omega⟩) * (q (ix2 r ⟨h + (d : ℕ), by omega⟩) * cQ)) + b (ix3 0 w r) * cL
  else ⊥

theorem score0 : k0_pay7 (F := Ideal) i q k b (ix2 w r) = score i q k b w r 0 0 (by norm_num) (by norm_num) := by
  pointwise [k0_pay7, k0_pay6, k0_pay5]
  simp only [named_cL, named_cQ]
  rw [started i w, select_ofBool, neg_inf, sum_lo (fun x => k (ix3 0 w x) * (q (ix2 r ⟨(x : ℕ), by omega⟩) * cQ))]
  unfold score
  congr 2

theorem score1 : k0_pay11 (F := Ideal) (k0_pay6 i) (k0_pay10 (F := Ideal) q) (iota .tc S256x128 32 [1] iota_S256x128_d1_w32) 64#32 k b (ix2 w r) = score i q k b w r 64 64 (by norm_num) (by norm_num) := by
  pointwise [k0_pay11, k0_pay10, k0_pay6, k0_pay5]
  simp only [named_cL, named_cQ]
  rw [started i w, select_ofBool, neg_inf, sum_hi (fun x => k (ix3 0 w x) * (q (ix2 r ⟨(x : ℕ), by omega⟩) * cQ))]
  unfold score
  congr 2

theorem score2 : k0_pay16 (F := Ideal) (k0_pay6 i) (k0_pay14 (F := Ideal) (k0_pay5 (F := Ideal) q) k b) (k0_pay15 (F := Ideal)) (ix2 w r) = score i q k b w r 0 128 (by norm_num) (by norm_num) := by
  pointwise [k0_pay16, k0_pay14, k0_pay15, k0_pay6, k0_pay5]
  simp only [named_cL, named_cQ]
  rw [started i w, select_ofBool, neg_inf, sum_lo (fun x => k (ix3 0 w x) * (q (ix2 r ⟨128 + (x : ℕ), by omega⟩) * cQ))]
  unfold score
  congr 2

theorem score3 : k0_pay19 (F := Ideal) (k0_pay5 (F := Ideal) q) (k0_pay6 i) k b (ix2 w r) = score i q k b w r 64 192 (by norm_num) (by norm_num) := by
  pointwise [k0_pay19, k0_pay6, k0_pay5]
  simp only [named_cL, named_cQ]
  rw [started i w, select_ofBool, neg_inf, sum_hi (fun x => k (ix3 0 w x) * (q (ix2 r ⟨128 + (x : ℕ), by omega⟩) * cQ))]
  unfold score
  congr 2

theorem score4 : k0_pay23 (F := Ideal) (k0_pay6 i) (k0_pay22 (F := Ideal) (k0_pay5 (F := Ideal) q)) k b (ix2 w r) = score i q k b w r 0 256 (by norm_num) (by norm_num) := by
  pointwise [k0_pay23, k0_pay22, k0_pay6, k0_pay5]
  simp only [named_cL, named_cQ]
  rw [started i w, select_ofBool, neg_inf, sum_lo (fun x => k (ix3 0 w x) * (q (ix2 r ⟨256 + (x : ℕ), by omega⟩) * cQ))]
  unfold score
  congr 2

theorem score5 : k0_pay26 (F := Ideal) (k0_pay5 (F := Ideal) q) (k0_pay6 i) k b (ix2 w r) = score i q k b w r 64 320 (by norm_num) (by norm_num) := by
  pointwise [k0_pay26, k0_pay6, k0_pay5]
  simp only [named_cL, named_cQ]
  rw [started i w, select_ofBool, neg_inf, sum_hi (fun x => k (ix3 0 w x) * (q (ix2 r ⟨256 + (x : ℕ), by omega⟩) * cQ))]
  unfold score
  congr 2

theorem score6 : k0_pay29 (F := Ideal) (k0_pay5 (F := Ideal) q) (k0_pay6 i) k b (ix2 w r) = score i q k b w r 0 384 (by norm_num) (by norm_num) := by
  pointwise [k0_pay29, k0_pay6, k0_pay5]
  simp only [named_cL, named_cQ]
  rw [started i w, select_ofBool, neg_inf, sum_lo (fun x => k (ix3 0 w x) * (q (ix2 r ⟨384 + (x : ℕ), by omega⟩) * cQ))]
  unfold score
  congr 2

theorem score7 : k0_pay34 (F := Ideal) (k0_pay6 i) (k0_pay32 (F := Ideal) (k0_pay5 (F := Ideal) q) k) (k0_pay33 (F := Ideal) b) (Named.named (F := Ideal) κ "log2e" (φ := .f32) 0x3FB8AA3B#32) (ix2 w r) = score i q k b w r 64 448 (by norm_num) (by norm_num) := by
  pointwise [k0_pay34, k0_pay32, k0_pay33, k0_pay6, k0_pay5]
  simp only [named_cL, named_cQ]
  rw [started i w, select_ofBool, neg_inf, sum_hi (fun x => k (ix3 0 w x) * (q (ix2 r ⟨384 + (x : ℕ), by omega⟩) * cQ))]
  unfold score
  congr 2

end Cert.BandIdeal.Score

end
-- ==== Proof.Head.lean ====
module

public import proofs.«01_k».proof.Proof.Gen.BandIdeal.Value
public import Idealize.ShloMosaic.Lib.Pipeline.ValueKit
public import Idealize.ShloMosaic.Lib.Pipeline.ReadBack
public import Idealize.ShloMosaic.Lib.Pointwise
public import proofs.«01_k».proof.Proof.Score

@[expose] public section

set_option maxRecDepth 16384

noncomputable section

open Idealize.ShloMosaic Idealize.ShloMosaic.TcCoe Idealize.SL.Sem
open Idealize.ShloMosaic.Pipeline (Dat)

namespace Cert.BandIdeal.Head

open Cert.BandIdeal Cert.BandIdeal.Gen Cert.BandIdeal.Score

/-- What the scratch holds at head 0 is what was stored there. -/
theorem readback0 (v : View sig .tc .vmem S8x768x256 .f32) (off : Fin 3 → ℕ) (inb)
    (i0 i1 i2 i3 i4 i5 i6 i7) (p0 p1 p2 p3 p4 p5 p6 p7 : S1x768x256.Idx → EReal) (ho : off = ![0, 0, 0]) :
    View.readCov (Val := Elt Ideal) v [⟨Rect.unit ![7, 0, 0] ![1, 768, 256] i7, p7⟩, ⟨Rect.unit ![6, 0, 0] ![1, 768, 256] i6, p6⟩, ⟨Rect.unit ![5, 0, 0] ![1, 768, 256] i5, p5⟩, ⟨Rect.unit ![4, 0, 0] ![1, 768, 256] i4, p4⟩, ⟨Rect.unit ![3, 0, 0] ![1, 768, 256] i3, p3⟩, ⟨Rect.unit ![2, 0, 0] ![1, 768, 256] i2, p2⟩, ⟨Rect.unit ![1, 0, 0] ![1, 768, 256] i1, p1⟩, ⟨Rect.unit ![0, 0, 0] ![1, 768, 256] i0, p0⟩]
      (Rect.unit off ![1, 768, 256] inb).toLoadRect = p0 := by
  subst ho
  rw [View.readCov_skip _ _ _ _ _ rfl, View.readCov_skip _ _ _ _ _ rfl, View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]

theorem off5_0 : ∀ t : Fin grid0.N, k0_off5 (grid0.coords t) 0#32 = ![0, 0, 0] := by decide +kernel

/-- What the scratch holds at head 1 is what was stored there. -/
theorem readback1 (v : View sig .tc .vmem S8x768x256 .f32) (off : Fin 3 → ℕ) (inb)
    (i0 i1 i2 i3 i4 i5 i6 i7) (p0 p1 p2 p3 p4 p5 p6 p7 : S1x768x256.Idx → EReal) (ho : off = ![1, 0, 0]) :
    View.readCov (Val := Elt Ideal) v [⟨Rect.unit ![7, 0, 0] ![1, 768, 256] i7, p7⟩, ⟨Rect.unit ![6, 0, 0] ![1, 768, 256] i6, p6⟩, ⟨Rect.unit ![5, 0, 0] ![1, 768, 256] i5, p5⟩, ⟨Rect.unit ![4, 0, 0] ![1, 768, 256] i4, p4⟩, ⟨Rect.unit ![3, 0, 0] ![1, 768, 256] i3, p3⟩, ⟨Rect.unit ![2, 0, 0] ![1, 768, 256] i2, p2⟩, ⟨Rect.unit ![1, 0, 0] ![1, 768, 256] i1, p1⟩, ⟨Rect.unit ![0, 0, 0] ![1, 768, 256] i0, p0⟩]
      (Rect.unit off ![1, 768, 256] inb).toLoadRect = p1 := by
  subst ho
  rw [View.readCov_skip _ _ _ _ _ rfl, View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]

theorem off5_1 : ∀ t : Fin grid0.N, k0_off5 (grid0.coords t) 1#32 = ![1, 0, 0] := by decide +kernel

/-- What the scratch holds at head 2 is what was stored there. -/
theorem readback2 (v : View sig .tc .vmem S8x768x256 .f32) (off : Fin 3 → ℕ) (inb)
    (i0 i1 i2 i3 i4 i5 i6 i7) (p0 p1 p2 p3 p4 p5 p6 p7 : S1x768x256.Idx → EReal) (ho : off = ![2, 0, 0]) :
    View.readCov (Val := Elt Ideal) v [⟨Rect.unit ![7, 0, 0] ![1, 768, 256] i7, p7⟩, ⟨Rect.unit ![6, 0, 0] ![1, 768, 256] i6, p6⟩, ⟨Rect.unit ![5, 0, 0] ![1, 768, 256] i5, p5⟩, ⟨Rect.unit ![4, 0, 0] ![1, 768, 256] i4, p4⟩, ⟨Rect.unit ![3, 0, 0] ![1, 768, 256] i3, p3⟩, ⟨Rect.unit ![2, 0, 0] ![1, 768, 256] i2, p2⟩, ⟨Rect.unit ![1, 0, 0] ![1, 768, 256] i1, p1⟩, ⟨Rect.unit ![0, 0, 0] ![1, 768, 256] i0, p0⟩]
      (Rect.unit off ![1, 768, 256] inb).toLoadRect = p2 := by
  subst ho
  rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]

theorem off5_2 : ∀ t : Fin grid0.N, k0_off5 (grid0.coords t) 2#32 = ![2, 0, 0] := by decide +kernel

/-- What the scratch holds at head 3 is what was stored there. -/
theorem readback3 (v : View sig .tc .vmem S8x768x256 .f32) (off : Fin 3 → ℕ) (inb)
    (i0 i1 i2 i3 i4 i5 i6 i7) (p0 p1 p2 p3 p4 p5 p6 p7 : S1x768x256.Idx → EReal) (ho : off = ![3, 0, 0]) :
    View.readCov (Val := Elt Ideal) v [⟨Rect.unit ![7, 0, 0] ![1, 768, 256] i7, p7⟩, ⟨Rect.unit ![6, 0, 0] ![1, 768, 256] i6, p6⟩, ⟨Rect.unit ![5, 0, 0] ![1, 768, 256] i5, p5⟩, ⟨Rect.unit ![4, 0, 0] ![1, 768, 256] i4, p4⟩, ⟨Rect.unit ![3, 0, 0] ![1, 768, 256] i3, p3⟩, ⟨Rect.unit ![2, 0, 0] ![1, 768, 256] i2, p2⟩, ⟨Rect.unit ![1, 0, 0] ![1, 768, 256] i1, p1⟩, ⟨Rect.unit ![0, 0, 0] ![1, 768, 256] i0, p0⟩]
      (Rect.unit off ![1, 768, 256] inb).toLoadRect = p3 := by
  subst ho
  rw [View.readCov_skip _ _ _ _ _ rfl, View.readCov_skip _ _ _ _ _ rfl, View.readCov_skip _ _ _ _ _ rfl, View.readCov_skip _ _ _ _ _ rfl, View.readCov_cons_toLoadRect]

theorem off5_3 : ∀ t : Fin grid0.N, k0_off5 (grid0.coords t) 3#32 = ![3, 0, 0] := by decide +kernel

/-- What the scratch holds at head 4 is what was stored there. -/
theorem readback4 (v : View sig .tc .vmem S8x768x256 .f32) (off : Fin 3 → ℕ) (inb)
    (i0 i1 i2 i3 i4 i5 i6 i7) (p0 p1 p2 p3 p4 p5 p6 p7 : S1x768x256.Idx → EReal) (ho : off = ![4, 0, 0]) :
    View.readCov (Val := Elt Ideal) v [⟨Rect.unit ![7, 0, 0] ![1, 768, 256] i7, p7⟩, ⟨Rect.unit ![6, 0, 0] ![1, 768, 256] i6, p6⟩, ⟨Rect.unit ![5, 0, 0] ![1, 768, 256] i5, p5⟩, ⟨Rect.unit ![4, 0, 0] ![1, 768, 256] i4, p4⟩, ⟨Rect.unit ![3, 0, 0] ![1, 768, 256] i3, p3⟩, ⟨Rect.unit ![2, 0, 0] ![1, 768, 256] i2, p2⟩, ⟨Rect.unit ![1, 0, 0] ![1, 768, 256] i1, p1⟩, ⟨Rect.unit ![0, 0, 0] ![1, 768, 256] i0, p0⟩]
      (Rect.unit off ![1, 768, 256] inb).toLoadRect = p4 := by
  subst ho
  rw [View.readCov_skip _ _ _ _ _ rfl, View.readCov_skip _ _ _ _ _ rfl, View.readCov_skip _ _ _ _ _ rfl, View.readCov_cons_toLoadRect]

theorem off5_4 : ∀ t : Fin grid0.N, k0_off5 (grid0.coords t) 4#32 = ![4, 0, 0] := by decide +kernel

/-- What the scratch holds at head 5 is what was stored there. -/
theorem readback5 (v : View sig .tc .vmem S8x768x256 .f32) (off : Fin 3 → ℕ) (inb)
    (i0 i1 i2 i3 i4 i5 i6 i7) (p0 p1 p2 p3 p4 p5 p6 p7 : S1x768x256.Idx → EReal) (ho : off = ![5, 0, 0]) :
    View.readCov (Val := Elt Ideal) v [⟨Rect.unit ![7, 0, 0] ![1, 768, 256] i7, p7⟩, ⟨Rect.unit ![6, 0, 0] ![1, 768, 256] i6, p6⟩, ⟨Rect.unit ![5, 0, 0] ![1, 768, 256] i5, p5⟩, ⟨Rect.unit ![4, 0, 0] ![1, 768, 256] i4, p4⟩, ⟨Rect.unit ![3, 0, 0] ![1, 768, 256] i3, p3⟩, ⟨Rect.unit ![2, 0, 0] ![1, 768, 256] i2, p2⟩, ⟨Rect.unit ![1, 0, 0] ![1, 768, 256] i1, p1⟩, ⟨Rect.unit ![0, 0, 0] ![1, 768, 256] i0, p0⟩]
      (Rect.unit off ![1, 768, 256] inb).toLoadRect = p5 := by
  subst ho
  rw [View.readCov_skip _ _ _ _ _ rfl, View.readCov_skip _ _ _ _ _ rfl, View.readCov_cons_toLoadRect]

theorem off5_5 : ∀ t : Fin grid0.N, k0_off5 (grid0.coords t) 5#32 = ![5, 0, 0] := by decide +kernel

/-- What the scratch holds at head 6 is what was stored there. -/
theorem readback6 (v : View sig .tc .vmem S8x768x256 .f32) (off : Fin 3 → ℕ) (inb)
    (i0 i1 i2 i3 i4 i5 i6 i7) (p0 p1 p2 p3 p4 p5 p6 p7 : S1x768x256.Idx → EReal) (ho : off = ![6, 0, 0]) :
    View.readCov (Val := Elt Ideal) v [⟨Rect.unit ![7, 0, 0] ![1, 768, 256] i7, p7⟩, ⟨Rect.unit ![6, 0, 0] ![1, 768, 256] i6, p6⟩, ⟨Rect.unit ![5, 0, 0] ![1, 768, 256] i5, p5⟩, ⟨Rect.unit ![4, 0, 0] ![1, 768, 256] i4, p4⟩, ⟨Rect.unit ![3, 0, 0] ![1, 768, 256] i3, p3⟩, ⟨Rect.unit ![2, 0, 0] ![1, 768, 256] i2, p2⟩, ⟨Rect.unit ![1, 0, 0] ![1, 768, 256] i1, p1⟩, ⟨Rect.unit ![0, 0, 0] ![1, 768, 256] i0, p0⟩]
      (Rect.unit off ![1, 768, 256] inb).toLoadRect = p6 := by
  subst ho
  rw [View.readCov_skip _ _ _ _ _ rfl, View.readCov_cons_toLoadRect]

theorem off5_6 : ∀ t : Fin grid0.N, k0_off5 (grid0.coords t) 6#32 = ![6, 0, 0] := by decide +kernel

/-- What the scratch holds at head 7 is what was stored there. -/
theorem readback7 (v : View sig .tc .vmem S8x768x256 .f32) (off : Fin 3 → ℕ) (inb)
    (i0 i1 i2 i3 i4 i5 i6 i7) (p0 p1 p2 p3 p4 p5 p6 p7 : S1x768x256.Idx → EReal) (ho : off = ![7, 0, 0]) :
    View.readCov (Val := Elt Ideal) v [⟨Rect.unit ![7, 0, 0] ![1, 768, 256] i7, p7⟩, ⟨Rect.unit ![6, 0, 0] ![1, 768, 256] i6, p6⟩, ⟨Rect.unit ![5, 0, 0] ![1, 768, 256] i5, p5⟩, ⟨Rect.unit ![4, 0, 0] ![1, 768, 256] i4, p4⟩, ⟨Rect.unit ![3, 0, 0] ![1, 768, 256] i3, p3⟩, ⟨Rect.unit ![2, 0, 0] ![1, 768, 256] i2, p2⟩, ⟨Rect.unit ![1, 0, 0] ![1, 768, 256] i1, p1⟩, ⟨Rect.unit ![0, 0, 0] ![1, 768, 256] i0, p0⟩]
      (Rect.unit off ![1, 768, 256] inb).toLoadRect = p7 := by
  subst ho
  rw [View.readCov_cons_toLoadRect]

theorem off5_7 : ∀ t : Fin grid0.N, k0_off5 (grid0.coords t) 7#32 = ![7, 0, 0] := by decide +kernel

theorem off1 : ∀ t : Fin grid0.N, k0_off1 (grid0.coords t) = ![0, t.val % 32 * 256, 0] := by decide +kernel

theorem off6_0 : ∀ t : Fin grid0.N, k0_off6 (grid0.coords t) 0#32 = ![0, t.val % 32 + 0, 0, 0] := by decide +kernel

theorem off6_1 : ∀ t : Fin grid0.N, k0_off6 (grid0.coords t) 1#32 = ![0, t.val % 32 + 1, 0, 0] := by decide +kernel

theorem off6_2 : ∀ t : Fin grid0.N, k0_off6 (grid0.coords t) 2#32 = ![0, t.val % 32 + 2, 0, 0] := by decide +kernel

theorem off2 : ∀ t : Fin grid0.N, k0_off2 (grid0.coords t) = ![0, t.val % 32 * 256, 128] := by decide +kernel

theorem off7_0 : ∀ t : Fin grid0.N, k0_off7 (grid0.coords t) 0#32 = ![0, t.val % 32 + 0, 128, 0] := by decide +kernel

theorem off7_1 : ∀ t : Fin grid0.N, k0_off7 (grid0.coords t) 1#32 = ![0, t.val % 32 + 1, 128, 0] := by decide +kernel

theorem off7_2 : ∀ t : Fin grid0.N, k0_off7 (grid0.coords t) 2#32 = ![0, t.val % 32 + 2, 128, 0] := by decide +kernel

theorem off3 : ∀ t : Fin grid0.N, k0_off3 (grid0.coords t) = ![0, t.val % 32 * 256, 256] := by decide +kernel

theorem off8_0 : ∀ t : Fin grid0.N, k0_off8 (grid0.coords t) 0#32 = ![0, t.val % 32 + 0, 256, 0] := by decide +kernel

theorem off8_1 : ∀ t : Fin grid0.N, k0_off8 (grid0.coords t) 1#32 = ![0, t.val % 32 + 1, 256, 0] := by decide +kernel

theorem off8_2 : ∀ t : Fin grid0.N, k0_off8 (grid0.coords t) 2#32 = ![0, t.val % 32 + 2, 256, 0] := by decide +kernel

theorem off4 : ∀ t : Fin grid0.N, k0_off4 (grid0.coords t) = ![0, t.val % 32 * 256, 384] := by decide +kernel

theorem off9_0 : ∀ t : Fin grid0.N, k0_off9 (grid0.coords t) 0#32 = ![0, t.val % 32 + 0, 384, 0] := by decide +kernel

theorem off9_1 : ∀ t : Fin grid0.N, k0_off9 (grid0.coords t) 1#32 = ![0, t.val % 32 + 1, 384, 0] := by decide +kernel

theorem off9_2 : ∀ t : Fin grid0.N, k0_off9 (grid0.coords t) 2#32 = ![0, t.val % 32 + 2, 384, 0] := by decide +kernel

/-- The weighted mean of the values `V` with weights `2 ^ (S - max S)`. -/
def mean (S V : Fin 768 → EReal) : EReal :=
  Ideal.div (∑ w, V w * Ideal.exp2 (S w - Finset.univ.fold max ⊥ S)) (∑ w, Ideal.exp2 (S w - Finset.univ.fold max ⊥ S))

/-- The values of one lane over the window, out of the three tiles it is loaded as. -/
def three (V0 V1 V2 : FVec Ideal S1x1x128x256 .bf16) (d : Fin 128) (w : Fin 768) : EReal :=
  if h0 : (w : ℕ) < 256 then V0 (ix4 0 0 d ⟨(w : ℕ), h0⟩)
  else if h1 : (w : ℕ) - 256 < 256 then V1 (ix4 0 0 d ⟨(w : ℕ) - 256, h1⟩)
  else V2 (ix4 0 0 d ⟨(w : ℕ) - 512, by omega⟩)

theorem sum_three (f : Fin 768 → EReal) :
    (∑ w : Fin 768, f w) = (∑ x : Fin 256, f ⟨(x : ℕ), by omega⟩) + (∑ x : Fin 256, f ⟨256 + (x : ℕ), by omega⟩)
      + ∑ x : Fin 256, f ⟨512 + (x : ℕ), by omega⟩ :=
  (Fin.sum_univ_add (a := 512) (b := 256) f).trans
    (congrArg (· + _) (Fin.sum_univ_add (a := 256) (b := 256) (fun x : Fin 512 => f (Fin.castAdd 256 x))))

theorem head (S : FVec Ideal S768x256 .f32) (V0 V1 V2 : FVec Ideal S1x1x128x256 .bf16) (d : Fin 128) (r : Fin 256) :
    k0_pay45 (F := Ideal) (k0_pay44 (F := Ideal) (k0_pay28 (F := Ideal) S) (shapeCast S1x768x256 S shapeCasts_S768x256_S1x768x256)) V0 V1 V2 (ix2 d r)
      = mean (fun w => S (ix2 w r)) (three V0 V1 V2 d) := by
  pointwise [k0_pay45, k0_pay44, k0_pay28]
  rw [neg_inf]
  unfold mean
  refine congrArg₂ Ideal.div ?_ rfl
  rw [sum_three]
  refine congrArg₂ (· + ·) (congrArg₂ (· + ·) ?_ ?_) ?_ <;> refine Finset.sum_congr rfl fun x _ => ?_
  all_goals
    have hx := x.isLt
    unfold three
    simp
    first | rfl | (rw [dif_neg (by omega), dif_neg (by omega)]; rfl)

end Cert.BandIdeal.Head

end
-- ==== Proof.Pair.lean ====
module

public import proofs.«01_k».proof.Proof.Gen.BandIdeal.Value
public import Idealize.ShloMosaic.Lib.Pipeline.ValueKit
public import Idealize.ShloMosaic.Lib.Pipeline.ReadBack
public import Idealize.ShloMosaic.Lib.Pointwise
public import proofs.«01_k».proof.Proof.Head

@[expose] public section

set_option maxRecDepth 16384

noncomputable section

open Idealize.ShloMosaic Idealize.ShloMosaic.TcCoe Idealize.SL.Sem
open Idealize.ShloMosaic.Pipeline (Dat)

namespace Cert.BandIdeal.Pair

open Cert.BandIdeal Cert.BandIdeal.Gen Cert.BandIdeal.Score Cert.BandIdeal.Head

variable (i : grid0.Coords) (q : FVec Ideal S256x512 .f32) (k : FVec Ideal S1x768x128 .bf16)
  (b0 b1 : FVec Ideal S1x768x256 .f32) (V0 V1 V2 : FVec Ideal S1x1x128x256 .bf16) (r : Fin 256) (l : Fin 128)

theorem head0 : (k0_pay41 (F := Ideal) (k0_pay38 (F := Ideal) (k0_pay9 (F := Ideal) i q k b0) (k0_pay8 (F := Ideal) i q k b0)) (k0_pay39 (F := Ideal) (k0_pay9 (F := Ideal) i q k b0) (k0_pay8 (F := Ideal) i q k b0)) (k0_pay40 (F := Ideal) (k0_pay9 (F := Ideal) i q k b0) (k0_pay8 (F := Ideal) i q k b0) V0 V1) V2) (ix2 l r)
      = mean (fun w => score i q k b0 w r 0 0 (by norm_num) (by norm_num)) (three V0 V1 V2 l) := by
  refine (head (k0_pay7 (F := Ideal) i q k b0) V0 V1 V2 l r).trans ?_
  exact congrArg₂ mean (funext fun w => score0 i q k b0 w r) rfl

theorem head1 : (k0_pay42 (F := Ideal) (k0_pay13 (F := Ideal) (k0_pay6 i) (k0_pay10 (F := Ideal) q) (iota .tc S256x128 32 [1] iota_S256x128_d1_w32) 64#32 k b1) (k0_pay12 (F := Ideal) (k0_pay6 i) (k0_pay10 (F := Ideal) q) (iota .tc S256x128 32 [1] iota_S256x128_d1_w32) 64#32 k b1) V0 V1 V2) (ix2 l r)
      = mean (fun w => score i q k b1 w r 64 64 (by norm_num) (by norm_num)) (three V0 V1 V2 l) := by
  refine (head (k0_pay11 (F := Ideal) (k0_pay6 i) (k0_pay10 (F := Ideal) q) (iota .tc S256x128 32 [1] iota_S256x128_d1_w32) 64#32 k b1) V0 V1 V2 l r).trans ?_
  exact congrArg₂ mean (funext fun w => score1 i q k b1 w r) rfl

theorem head2 : (k0_pay43 (F := Ideal) (k0_pay18 (F := Ideal) (k0_pay6 i) (k0_pay14 (F := Ideal) (k0_pay5 (F := Ideal) q) k b0) (k0_pay15 (F := Ideal))) (k0_pay17 (F := Ideal) (k0_pay6 i) (k0_pay14 (F := Ideal) (k0_pay5 (F := Ideal) q) k b0) (k0_pay15 (F := Ideal))) V0 V1 V2) (ix2 l r)
      = mean (fun w => score i q k b0 w r 0 128 (by norm_num) (by norm_num)) (three V0 V1 V2 l) := by
  refine (head (k0_pay16 (F := Ideal) (k0_pay6 i) (k0_pay14 (F := Ideal) (k0_pay5 (F := Ideal) q) k b0) (k0_pay15 (F := Ideal))) V0 V1 V2 l r).trans ?_
  exact congrArg₂ mean (funext fun w => score2 i q k b0 w r) rfl

theorem head3 : (k0_pay45 (F := Ideal) (k0_pay44 (F := Ideal) (k0_pay21 (F := Ideal) (k0_pay5 (F := Ideal) q) (k0_pay6 i) k b1) (k0_pay20 (F := Ideal) (k0_pay5 (F := Ideal) q) (k0_pay6 i) k b1)) V0 V1 V2) (ix2 l r)
      = mean (fun w => score i q k b1 w r 64 192 (by norm_num) (by norm_num)) (three V0 V1 V2 l) := by
  refine (head (k0_pay19 (F := Ideal) (k0_pay5 (F := Ideal) q) (k0_pay6 i) k b1) V0 V1 V2 l r).trans ?_
  exact congrArg₂ mean (funext fun w => score3 i q k b1 w r) rfl

theorem head4 : (k0_pay49 (F := Ideal) (k0_pay47 (F := Ideal) (k0_pay25 (F := Ideal) (k0_pay6 i) (k0_pay22 (F := Ideal) (k0_pay5 (F := Ideal) q)) k b0) (k0_pay24 (F := Ideal) (k0_pay6 i) (k0_pay22 (F := Ideal) (k0_pay5 (F := Ideal) q)) k b0)) (k0_pay48 (F := Ideal) (k0_pay25 (F := Ideal) (k0_pay6 i) (k0_pay22 (F := Ideal) (k0_pay5 (F := Ideal) q)) k b0) (k0_pay24 (F := Ideal) (k0_pay6 i) (k0_pay22 (F := Ideal) (k0_pay5 (F := Ideal) q)) k b0)) V0 V1 V2) (ix2 l r)
      = mean (fun w => score i q k b0 w r 0 256 (by norm_num) (by norm_num)) (three V0 V1 V2 l) := by
  refine (head (k0_pay23 (F := Ideal) (k0_pay6 i) (k0_pay22 (F := Ideal) (k0_pay5 (F := Ideal) q)) k b0) V0 V1 V2 l r).trans ?_
  exact congrArg₂ mean (funext fun w => score4 i q k b0 w r) rfl

theorem head5 : (k0_pay54 (F := Ideal) (k0_pay51 (F := Ideal) (k0_pay28 (F := Ideal) (k0_pay26 (F := Ideal) (k0_pay5 (F := Ideal) q) (k0_pay6 i) k b1)) (k0_pay27 (F := Ideal) (k0_pay5 (F := Ideal) q) (k0_pay6 i) k b1)) (k0_pay52 (F := Ideal) (k0_pay28 (F := Ideal) (k0_pay26 (F := Ideal) (k0_pay5 (F := Ideal) q) (k0_pay6 i) k b1)) (k0_pay27 (F := Ideal) (k0_pay5 (F := Ideal) q) (k0_pay6 i) k b1)) (k0_pay53 (F := Ideal) (k0_pay28 (F := Ideal) (k0_pay26 (F := Ideal) (k0_pay5 (F := Ideal) q) (k0_pay6 i) k b1)) (k0_pay27 (F := Ideal) (k0_pay5 (F := Ideal) q) (k0_pay6 i) k b1) V0) V1 V2) (ix2 l r)
      = mean (fun w => score i q k b1 w r 64 320 (by norm_num) (by norm_num)) (three V0 V1 V2 l) := by
  refine (head (k0_pay26 (F := Ideal) (k0_pay5 (F := Ideal) q) (k0_pay6 i) k b1) V0 V1 V2 l r).trans ?_
  exact congrArg₂ mean (funext fun w => score5 i q k b1 w r) rfl

theorem head6 : (k0_pay60 (F := Ideal) (k0_pay56 (F := Ideal) (k0_pay31 (F := Ideal) (k0_pay5 (F := Ideal) q) (k0_pay6 i) k b0) (k0_pay30 (F := Ideal) (k0_pay5 (F := Ideal) q) (k0_pay6 i) k b0)) (k0_pay57 (F := Ideal) (k0_pay31 (F := Ideal) (k0_pay5 (F := Ideal) q) (k0_pay6 i) k b0) (k0_pay30 (F := Ideal) (k0_pay5 (F := Ideal) q) (k0_pay6 i) k b0)) (k0_pay58 (F := Ideal) (k0_pay31 (F := Ideal) (k0_pay5 (F := Ideal) q) (k0_pay6 i) k b0) (k0_pay30 (F := Ideal) (k0_pay5 (F := Ideal) q) (k0_pay6 i) k b0) V0) (k0_pay59 (F := Ideal) (k0_pay31 (F := Ideal) (k0_pay5 (F := Ideal) q) (k0_pay6 i) k b0) (k0_pay30 (F := Ideal) (k0_pay5 (F := Ideal) q) (k0_pay6 i) k b0) V1) V2) (ix2 l r)
      = mean (fun w => score i q k b0 w r 0 384 (by norm_num) (by norm_num)) (three V0 V1 V2 l) := by
  refine (head (k0_pay29 (F := Ideal) (k0_pay5 (F := Ideal) q) (k0_pay6 i) k b0) V0 V1 V2 l r).trans ?_
  exact congrArg₂ mean (funext fun w => score6 i q k b0 w r) rfl

theorem head7 : (k0_pay45 (F := Ideal) (k0_pay44 (F := Ideal) (k0_pay36 (F := Ideal) (k0_pay6 i) (k0_pay32 (F := Ideal) (k0_pay5 (F := Ideal) q) k) (k0_pay33 (F := Ideal) b1) (Named.named (F := Ideal) κ "log2e" (φ := .f32) 0x3FB8AA3B#32)) (k0_pay35 (F := Ideal) (k0_pay6 i) (k0_pay32 (F := Ideal) (k0_pay5 (F := Ideal) q) k) (k0_pay33 (F := Ideal) b1) (Named.named (F := Ideal) κ "log2e" (φ := .f32) 0x3FB8AA3B#32))) V0 V1 V2) (ix2 l r)
      = mean (fun w => score i q k b1 w r 64 448 (by norm_num) (by norm_num)) (three V0 V1 V2 l) := by
  refine (head (k0_pay34 (F := Ideal) (k0_pay6 i) (k0_pay32 (F := Ideal) (k0_pay5 (F := Ideal) q) k) (k0_pay33 (F := Ideal) b1) (Named.named (F := Ideal) κ "log2e" (φ := .f32) 0x3FB8AA3B#32)) V0 V1 V2 l r).trans ?_
  exact congrArg₂ mean (funext fun w => score7 i q k b1 w r) rfl

theorem pick0 (h0 h1 : FVec Ideal S128x256 .f32) :
    k0_pay1 (F := Ideal) (iota .tc S128x256 32 [0] iota_S128x256_d0_w32) h0 h1 (ix2 r l) = if (l : ℕ) < 64 then h0 (ix2 l r) else h1 (ix2 l r) := by
  pointwise [k0_pay1]
  rw [lane_lo l, select_ofBool]

theorem pair0 : k0_pay1 (F := Ideal) (iota .tc S128x256 32 [0] iota_S128x256_d0_w32) (k0_pay41 (F := Ideal) (k0_pay38 (F := Ideal) (k0_pay9 (F := Ideal) i q k b0) (k0_pay8 (F := Ideal) i q k b0)) (k0_pay39 (F := Ideal) (k0_pay9 (F := Ideal) i q k b0) (k0_pay8 (F := Ideal) i q k b0)) (k0_pay40 (F := Ideal) (k0_pay9 (F := Ideal) i q k b0) (k0_pay8 (F := Ideal) i q k b0) V0 V1) V2) (k0_pay42 (F := Ideal) (k0_pay13 (F := Ideal) (k0_pay6 i) (k0_pay10 (F := Ideal) q) (iota .tc S256x128 32 [1] iota_S256x128_d1_w32) 64#32 k b1) (k0_pay12 (F := Ideal) (k0_pay6 i) (k0_pay10 (F := Ideal) q) (iota .tc S256x128 32 [1] iota_S256x128_d1_w32) 64#32 k b1) V0 V1 V2) (ix2 r l)
      = if (l : ℕ) < 64 then mean (fun w => score i q k b0 w r 0 0 (by norm_num) (by norm_num)) (three V0 V1 V2 l)
        else mean (fun w => score i q k b1 w r 64 64 (by norm_num) (by norm_num)) (three V0 V1 V2 l) := by
  rw [pick0, head0, head1]

theorem pick1 (h0 h1 : FVec Ideal S128x256 .f32) :
    k0_pay2 (F := Ideal) (iota .tc S128x256 32 [0] iota_S128x256_d0_w32) h0 h1 (ix2 r l) = if (l : ℕ) < 64 then h0 (ix2 l r) else h1 (ix2 l r) := by
  pointwise [k0_pay2]
  rw [lane_lo l, select_ofBool]

theorem pair1 : k0_pay2 (F := Ideal) (iota .tc S128x256 32 [0] iota_S128x256_d0_w32) (k0_pay43 (F := Ideal) (k0_pay18 (F := Ideal) (k0_pay6 i) (k0_pay14 (F := Ideal) (k0_pay5 (F := Ideal) q) k b0) (k0_pay15 (F := Ideal))) (k0_pay17 (F := Ideal) (k0_pay6 i) (k0_pay14 (F := Ideal) (k0_pay5 (F := Ideal) q) k b0) (k0_pay15 (F := Ideal))) V0 V1 V2) (k0_pay45 (F := Ideal) (k0_pay44 (F := Ideal) (k0_pay21 (F := Ideal) (k0_pay5 (F := Ideal) q) (k0_pay6 i) k b1) (k0_pay20 (F := Ideal) (k0_pay5 (F := Ideal) q) (k0_pay6 i) k b1)) V0 V1 V2) (ix2 r l)
      = if (l : ℕ) < 64 then mean (fun w => score i q k b0 w r 0 128 (by norm_num) (by norm_num)) (three V0 V1 V2 l)
        else mean (fun w => score i q k b1 w r 64 192 (by norm_num) (by norm_num)) (three V0 V1 V2 l) := by
  rw [pick1, head2, head3]

theorem pick2 (h0 h1 : FVec Ideal S128x256 .f32) :
    k0_pay3 (F := Ideal) (iota .tc S128x256 32 [0] iota_S128x256_d0_w32) h0 h1 (ix2 r l) = if (l : ℕ) < 64 then h0 (ix2 l r) else h1 (ix2 l r) := by
  pointwise [k0_pay3]
  rw [lane_lo l, select_ofBool]

theorem pair2 : k0_pay3 (F := Ideal) (iota .tc S128x256 32 [0] iota_S128x256_d0_w32) (k0_pay49 (F := Ideal) (k0_pay47 (F := Ideal) (k0_pay25 (F := Ideal) (k0_pay6 i) (k0_pay22 (F := Ideal) (k0_pay5 (F := Ideal) q)) k b0) (k0_pay24 (F := Ideal) (k0_pay6 i) (k0_pay22 (F := Ideal) (k0_pay5 (F := Ideal) q)) k b0)) (k0_pay48 (F := Ideal) (k0_pay25 (F := Ideal) (k0_pay6 i) (k0_pay22 (F := Ideal) (k0_pay5 (F := Ideal) q)) k b0) (k0_pay24 (F := Ideal) (k0_pay6 i) (k0_pay22 (F := Ideal) (k0_pay5 (F := Ideal) q)) k b0)) V0 V1 V2) (k0_pay54 (F := Ideal) (k0_pay51 (F := Ideal) (k0_pay28 (F := Ideal) (k0_pay26 (F := Ideal) (k0_pay5 (F := Ideal) q) (k0_pay6 i) k b1)) (k0_pay27 (F := Ideal) (k0_pay5 (F := Ideal) q) (k0_pay6 i) k b1)) (k0_pay52 (F := Ideal) (k0_pay28 (F := Ideal) (k0_pay26 (F := Ideal) (k0_pay5 (F := Ideal) q) (k0_pay6 i) k b1)) (k0_pay27 (F := Ideal) (k0_pay5 (F := Ideal) q) (k0_pay6 i) k b1)) (k0_pay53 (F := Ideal) (k0_pay28 (F := Ideal) (k0_pay26 (F := Ideal) (k0_pay5 (F := Ideal) q) (k0_pay6 i) k b1)) (k0_pay27 (F := Ideal) (k0_pay5 (F := Ideal) q) (k0_pay6 i) k b1) V0) V1 V2) (ix2 r l)
      = if (l : ℕ) < 64 then mean (fun w => score i q k b0 w r 0 256 (by norm_num) (by norm_num)) (three V0 V1 V2 l)
        else mean (fun w => score i q k b1 w r 64 320 (by norm_num) (by norm_num)) (three V0 V1 V2 l) := by
  rw [pick2, head4, head5]

theorem pair3 : k0_pay4 (F := Ideal) (iota .tc S128x256 32 [0] iota_S128x256_d0_w32) (k0_pay60 (F := Ideal) (k0_pay56 (F := Ideal) (k0_pay31 (F := Ideal) (k0_pay5 (F := Ideal) q) (k0_pay6 i) k b0) (k0_pay30 (F := Ideal) (k0_pay5 (F := Ideal) q) (k0_pay6 i) k b0)) (k0_pay57 (F := Ideal) (k0_pay31 (F := Ideal) (k0_pay5 (F := Ideal) q) (k0_pay6 i) k b0) (k0_pay30 (F := Ideal) (k0_pay5 (F := Ideal) q) (k0_pay6 i) k b0)) (k0_pay58 (F := Ideal) (k0_pay31 (F := Ideal) (k0_pay5 (F := Ideal) q) (k0_pay6 i) k b0) (k0_pay30 (F := Ideal) (k0_pay5 (F := Ideal) q) (k0_pay6 i) k b0) V0) (k0_pay59 (F := Ideal) (k0_pay31 (F := Ideal) (k0_pay5 (F := Ideal) q) (k0_pay6 i) k b0) (k0_pay30 (F := Ideal) (k0_pay5 (F := Ideal) q) (k0_pay6 i) k b0) V1) V2) (k0_pay62 (F := Ideal) (k0_pay36 (F := Ideal) (k0_pay6 i) (k0_pay32 (F := Ideal) (k0_pay5 (F := Ideal) q) k) (k0_pay33 (F := Ideal) b1) (Named.named (F := Ideal) κ "log2e" (φ := .f32) 0x3FB8AA3B#32)) (k0_pay35 (F := Ideal) (k0_pay6 i) (k0_pay32 (F := Ideal) (k0_pay5 (F := Ideal) q) k) (k0_pay33 (F := Ideal) b1) (Named.named (F := Ideal) κ "log2e" (φ := .f32) 0x3FB8AA3B#32))) (k0_pay63 (F := Ideal) (k0_pay36 (F := Ideal) (k0_pay6 i) (k0_pay32 (F := Ideal) (k0_pay5 (F := Ideal) q) k) (k0_pay33 (F := Ideal) b1) (Named.named (F := Ideal) κ "log2e" (φ := .f32) 0x3FB8AA3B#32)) (k0_pay35 (F := Ideal) (k0_pay6 i) (k0_pay32 (F := Ideal) (k0_pay5 (F := Ideal) q) k) (k0_pay33 (F := Ideal) b1) (Named.named (F := Ideal) κ "log2e" (φ := .f32) 0x3FB8AA3B#32))) (k0_pay64 (F := Ideal) (k0_pay36 (F := Ideal) (k0_pay6 i) (k0_pay32 (F := Ideal) (k0_pay5 (F := Ideal) q) k) (k0_pay33 (F := Ideal) b1) (Named.named (F := Ideal) κ "log2e" (φ := .f32) 0x3FB8AA3B#32)) (k0_pay35 (F := Ideal) (k0_pay6 i) (k0_pay32 (F := Ideal) (k0_pay5 (F := Ideal) q) k) (k0_pay33 (F := Ideal) b1) (Named.named (F := Ideal) κ "log2e" (φ := .f32) 0x3FB8AA3B#32)) V0 V1) (k0_pay65 (F := Ideal) V2) (ix2 r l)
      = if (l : ℕ) < 64 then mean (fun w => score i q k b0 w r 0 384 (by norm_num) (by norm_num)) (three V0 V1 V2 l)
        else mean (fun w => score i q k b1 w r 64 448 (by norm_num) (by norm_num)) (three V0 V1 V2 l) := by
  change k0_pay3 (F := Ideal) (iota .tc S128x256 32 [0] iota_S128x256_d0_w32) (k0_pay60 (F := Ideal) (k0_pay56 (F := Ideal) (k0_pay31 (F := Ideal) (k0_pay5 (F := Ideal) q) (k0_pay6 i) k b0) (k0_pay30 (F := Ideal) (k0_pay5 (F := Ideal) q) (k0_pay6 i) k b0)) (k0_pay57 (F := Ideal) (k0_pay31 (F := Ideal) (k0_pay5 (F := Ideal) q) (k0_pay6 i) k b0) (k0_pay30 (F := Ideal) (k0_pay5 (F := Ideal) q) (k0_pay6 i) k b0)) (k0_pay58 (F := Ideal) (k0_pay31 (F := Ideal) (k0_pay5 (F := Ideal) q) (k0_pay6 i) k b0) (k0_pay30 (F := Ideal) (k0_pay5 (F := Ideal) q) (k0_pay6 i) k b0) V0) (k0_pay59 (F := Ideal) (k0_pay31 (F := Ideal) (k0_pay5 (F := Ideal) q) (k0_pay6 i) k b0) (k0_pay30 (F := Ideal) (k0_pay5 (F := Ideal) q) (k0_pay6 i) k b0) V1) V2) (k0_pay45 (F := Ideal) (k0_pay44 (F := Ideal) (k0_pay36 (F := Ideal) (k0_pay6 i) (k0_pay32 (F := Ideal) (k0_pay5 (F := Ideal) q) k) (k0_pay33 (F := Ideal) b1) (Named.named (F := Ideal) κ "log2e" (φ := .f32) 0x3FB8AA3B#32)) (k0_pay35 (F := Ideal) (k0_pay6 i) (k0_pay32 (F := Ideal) (k0_pay5 (F := Ideal) q) k) (k0_pay33 (F := Ideal) b1) (Named.named (F := Ideal) κ "log2e" (φ := .f32) 0x3FB8AA3B#32))) V0 V1 V2) (ix2 r l) = _
  rw [pick2, head6, head7]

end Cert.BandIdeal.Pair

end
-- ==== Proof.Point.lean ====
module

public import proofs.«01_k».proof.Proof.Gen.BandIdeal.Value
public import Idealize.ShloMosaic.Lib.Pipeline.ValueKit
public import Idealize.ShloMosaic.Lib.Pipeline.ReadBack
public import Idealize.ShloMosaic.Lib.Pointwise
public import proofs.«01_k».proof.Proof.Pair

@[expose] public section

set_option maxRecDepth 16384

noncomputable section

open Idealize.ShloMosaic Idealize.ShloMosaic.TcCoe Idealize.SL.Sem
open Idealize.ShloMosaic.Pipeline (Dat)

namespace Cert.BandIdeal.Point

open Cert.BandIdeal Cert.BandIdeal.Gen Cert.BandIdeal.Score Cert.BandIdeal.Head Cert.BandIdeal.Pair

variable (m : (ℓ : Loc nD τ sig) → Buf (Elt Ideal) ℓ)

/-- The four arrays the call reads: the queries, the padded keys, the tiled transposed values and the tables. -/
abbrev qArr (c : Dev nD) : S32768x512.Idx → EReal := V m c main_arg0
abbrev kArr (c : Dev nD) : S4x8704x512.Idx → EReal := V m c main_v3
abbrev vArr (c : Dev nD) : S4x34x512x256.Idx → EReal := V m c main_v38
abbrev bArr (c : Dev nD) : S8x768x256.Idx → EReal := V m c main_v39

/-- The score of the query at row `R`, head `h`, against row `w` of its tile's window. -/
def sc (c : Dev nD) (R : Fin 32768) (h : Fin 8) (w : Fin 768) : EReal :=
  if 512 ≤ (w : ℕ) + 256 * ((R : ℕ) / 256 % 32) then
    (∑ d : Fin 64, kArr m c
          (ix3 ⟨(R : ℕ) / 8192, by omega⟩ ⟨(R : ℕ) / 256 % 32 * 256 + (w : ℕ), by omega⟩ ⟨64 * (h : ℕ) + (d : ℕ), by omega⟩)
        * (qArr m c (ix2 R ⟨64 * (h : ℕ) + (d : ℕ), by omega⟩) * cQ))
      + bArr m c (ix3 h w ⟨(R : ℕ) % 256, by omega⟩) * cL
  else ⊥

/-- The value at row `w` of the window, in lane `l`. -/
def vl (c : Dev nD) (R : Fin 32768) (l : Fin 512) (w : Fin 768) : EReal :=
  vArr m c
    (ix4 ⟨(R : ℕ) / 8192, by omega⟩ ⟨(R : ℕ) / 256 % 32 + (w : ℕ) / 256, by omega⟩ l ⟨(w : ℕ) % 256, by omega⟩)

/-- What the call leaves in its result. -/
def G (c : Dev nD) (j : S32768x512.Idx) : EReal :=
  mean (sc m c (j 0) ⟨(j 1 : ℕ) / 64, by have : (j 1 : ℕ) < 512 := (j 1).isLt; omega⟩) (vl m c (j 0) (j 1))

theorem idx : ∀ t : Fin cfg0.N, win0_0.index t = ![t.val, 0] ∧ win0_1.index t = ![t.val / 32, 0, 0]
    ∧ win0_2.index t = ![t.val / 32, 0, 0, 0] ∧ win0_3.index t = ![0, 0, 0] ∧ win0_4.index t = ![t.val, 0] :=
  (by decide +kernel : ∀ t : Fin grid0.N, _)

theorem crd : ∀ t : Fin cfg0.N, (grid0.coords t 1).val = t.val % 32 ∧ t.val < 128 :=
  (by decide +kernel : ∀ t : Fin grid0.N, _)

theorem ldk (X : S1x8704x512.Idx → EReal) (off : Fin 3 → ℕ) (inb) (a b : ℕ) (ho : off = ![0, a, b]) (w : Fin 768) (x : Fin 128)
    (ha : a + (w : ℕ) < 8704) (hb : b + (x : ℕ) < 512) :
    View.ld (Val := Elt Ideal) (e' := .bf16) X (Rect.unit off ![1, 768, 128] inb) (ix3 (0 : Fin 1) w x : S1x768x128.Idx)
      = X (ix3 0 ⟨a + (w : ℕ), ha⟩ ⟨b + (x : ℕ), hb⟩) := by
  subst ho
  rw [View.ld_apply]
  blk_ext
  · show a + 1 * (w : ℕ) = _; omega
  · show b + 1 * (x : ℕ) = _; omega

theorem ldb (X : S8x768x256.Idx → EReal) (off : Fin 3 → ℕ) (inb) (a : ℕ) (ho : off = ![a, 0, 0]) (w : Fin 768) (x : Fin 256)
    (ha : a < 8) :
    View.ld (Val := Elt Ideal) (e' := .f32) X (Rect.unit off ![1, 768, 256] inb) (ix3 (0 : Fin 1) w x : S1x768x256.Idx) = X (ix3 ⟨a, ha⟩ w x) := by
  subst ho
  rw [View.ld_apply]
  blk_ext
  · show a + 1 * 0 = _; omega
  · show 0 + 1 * (w : ℕ) = _; omega
  · show 0 + 1 * (x : ℕ) = _; omega

theorem ldv (X : S1x34x512x256.Idx → EReal) (off : Fin 4 → ℕ) (inb) (a b : ℕ) (ho : off = ![0, a, b, 0]) (l : Fin 128) (x : Fin 256)
    (ha : a < 34) (hb : b + (l : ℕ) < 512) :
    View.ld (Val := Elt Ideal) (e' := .bf16) X (Rect.unit off ![1, 1, 128, 256] inb) (ix4 (0 : Fin 1) (0 : Fin 1) l x : S1x1x128x256.Idx)
      = X (ix4 0 ⟨a, ha⟩ ⟨b + (l : ℕ), hb⟩ x) := by
  subst ho
  rw [View.ld_apply]
  blk_ext
  · show a + 1 * 0 = _; omega
  · show b + 1 * (l : ℕ) = _; omega
  · show 0 + 1 * (x : ℕ) = _; omega

theorem emq (t : Fin cfg0.N) (r : Fin 256) (x : Fin 512) :
    ((cfg0.win 0).blk t).view.emb (ix2 r x : S256x512.Idx) = ix2 ⟨t.val * 256 + (r : ℕ), by have := (crd t).2; omega⟩ x := by
  have hi := (idx t).1
  blk_ext [hi]

theorem rdq (c : Dev nD) (t : Fin cfg0.N) (r : Fin 256) (x : Fin 512) :
    iblk m c 0 t (ix2 r x : S256x512.Idx) = qArr m c (ix2 ⟨t.val * 256 + (r : ℕ), by have := (crd t).2; omega⟩ x) := by
  unfold iblk qArr
  rw [View.read_apply]
  generalize V m c = W
  rw [cast_eq, emq]

theorem emk (t : Fin cfg0.N) (w : Fin 8704) (x : Fin 512) :
    ((cfg0.win 1).blk t).view.emb (ix3 0 w x : S1x8704x512.Idx) = ix3 ⟨t.val / 32, by have := (crd t).2; omega⟩ w x := by
  have hi := (idx t).2.1
  blk_ext [hi]

theorem rdk (c : Dev nD) (t : Fin cfg0.N) (w : Fin 8704) (x : Fin 512) :
    iblk m c 1 t (ix3 0 w x : S1x8704x512.Idx) = kArr m c (ix3 ⟨t.val / 32, by have := (crd t).2; omega⟩ w x) := by
  unfold iblk kArr
  rw [View.read_apply]
  generalize V m c = W
  rw [cast_eq, emk]

theorem emv (t : Fin cfg0.N) (a : Fin 34) (l : Fin 512) (x : Fin 256) :
    ((cfg0.win 2).blk t).view.emb (ix4 0 a l x : S1x34x512x256.Idx) = ix4 ⟨t.val / 32, by have := (crd t).2; omega⟩ a l x := by
  have hi := (idx t).2.2.1
  blk_ext [hi]

theorem rdv (c : Dev nD) (t : Fin cfg0.N) (a : Fin 34) (l : Fin 512) (x : Fin 256) :
    iblk m c 2 t (ix4 0 a l x : S1x34x512x256.Idx) = vArr m c (ix4 ⟨t.val / 32, by have := (crd t).2; omega⟩ a l x) := by
  unfold iblk vArr
  rw [View.read_apply]
  generalize V m c = W
  rw [cast_eq, emv]

theorem emb (t : Fin cfg0.N) (h : Fin 8) (w : Fin 768) (r : Fin 256) :
    ((cfg0.win 3).blk t).view.emb (ix3 h w r : S8x768x256.Idx) = ix3 h w r := by
  have hi := (idx t).2.2.2.1
  blk_ext [hi]

theorem rdb (c : Dev nD) (t : Fin cfg0.N) (h : Fin 8) (w : Fin 768) (r : Fin 256) :
    iblk m c 3 t (ix3 h w r : S8x768x256.Idx) = bArr m c (ix3 h w r) := by
  unfold iblk bArr
  rw [View.read_apply]
  generalize V m c = W
  rw [cast_eq, emb]

/-- The mean over a tile's blocks is the entry of `G`, given where the blocks' entries stand in the arrays. -/
theorem assemble (c : Dev nD) (t : Fin cfg0.N) (q : FVec Ideal S256x512 .f32) (k : FVec Ideal S1x768x128 .bf16)
    (b : FVec Ideal S1x768x256 .f32) (V0 V1 V2 : FVec Ideal S1x1x128x256 .bf16) (r : Fin 256) (l : Fin 128)
    (j : S32768x512.Idx) (R : Fin 32768) (L : Fin 512) (h : Fin 8) (z a p : ℕ) (hp : p + 128 ≤ 512) (hp' : p = 128 * ((h : ℕ) / 2)) (hz : z + 64 ≤ 128) (ha : a + 64 ≤ 512)
    (hj : j = ix2 R L) (hR : (R : ℕ) = t.val * 256 + (r : ℕ)) (hh : (L : ℕ) / 64 = (h : ℕ))
    (hz' : z = 64 * ((h : ℕ) % 2)) (ha' : a = 64 * (h : ℕ))
    (hq : ∀ x : Fin 512, q (ix2 r x) = qArr m c (ix2 R x))
    (hk : ∀ (w : Fin 768) (x : Fin 128), k (ix3 0 w x) = kArr m c
      (ix3 ⟨t.val / 32, by have := (crd t).2; omega⟩ ⟨t.val % 32 * 256 + (w : ℕ), by omega⟩ ⟨p + (x : ℕ), by omega⟩))
    (hb : ∀ w : Fin 768, b (ix3 0 w r) = bArr m c (ix3 h w r))
    (h0 : ∀ x : Fin 256, V0 (ix4 0 0 l x) = vArr m c
      (ix4 ⟨t.val / 32, by have := (crd t).2; omega⟩ ⟨t.val % 32 + 0, by omega⟩ L x))
    (h1 : ∀ x : Fin 256, V1 (ix4 0 0 l x) = vArr m c
      (ix4 ⟨t.val / 32, by have := (crd t).2; omega⟩ ⟨t.val % 32 + 1, by omega⟩ L x))
    (h2 : ∀ x : Fin 256, V2 (ix4 0 0 l x) = vArr m c
      (ix4 ⟨t.val / 32, by have := (crd t).2; omega⟩ ⟨t.val % 32 + 2, by omega⟩ L x)) :
    mean (fun w => score (grid0.coords t) q k b w r z a hz ha) (three V0 V1 V2 l) = G m c j := by
  subst hj hz' ha' hp'
  have hc := crd t
  have hr := r.isLt
  have e1 : (R : ℕ) / 256 % 32 = t.val % 32 := by omega
  have e2 : (R : ℕ) / 8192 = t.val / 32 := by omega
  have e3 : (R : ℕ) % 256 = (r : ℕ) := by omega
  change _ = mean (sc m c R ⟨(L : ℕ) / 64, _⟩) (vl m c R L)
  refine congrArg₂ mean (funext fun w => ?_) (funext fun w => ?_)
  · unfold score sc
    refine if_congr (by rw [hc.1, e1]) (congrArg₂ (· + ·) (Finset.sum_congr rfl fun d _ => ?_) ?_) rfl
    · rw [hq, hk]
      refine congrArg₂ (· * ·) (congrArg _ ?_) (congrArg (qArr m c · * cQ) ?_)
      · congr 1 <;> apply Fin.ext <;> simp <;> omega
      · congr 1; apply Fin.ext; simp; omega
    · rw [hb w]
      refine congrArg (bArr m c · * cL) ?_
      congr 1 <;> apply Fin.ext <;> simp <;> omega
  · unfold three vl
    have hw := w.isLt
    split_ifs with c0 c1
    · rw [h0]; congr 1; congr 1 <;> apply Fin.ext <;> simp <;> omega
    · rw [h1]; congr 1; congr 1 <;> apply Fin.ext <;> simp <;> omega
    · rw [h2]; congr 1; congr 1 <;> apply Fin.ext <;> simp <;> omega

theorem piece0 (c : Dev nD) (t : Fin cfg0.N) (q : FVec Ideal S256x512 .f32) (k : FVec Ideal S1x768x128 .bf16)
    (b0 b1 : FVec Ideal S1x768x256 .f32) (V0 V1 V2 : FVec Ideal S1x1x128x256 .bf16) (r : Fin 256) (l : Fin 128) (j : S32768x512.Idx)
    (hj : j = ix2 ⟨t.val * 256 + (r : ℕ), by have := (crd t).2; omega⟩ ⟨0 + (l : ℕ), by omega⟩)
    (hq : ∀ x : Fin 512, q (ix2 r x) = qArr m c (ix2 ⟨t.val * 256 + (r : ℕ), by have := (crd t).2; omega⟩ x))
    (hk : ∀ (w : Fin 768) (x : Fin 128), k (ix3 0 w x) = kArr m c
      (ix3 ⟨t.val / 32, by have := (crd t).2; omega⟩ ⟨t.val % 32 * 256 + (w : ℕ), by omega⟩ ⟨0 + (x : ℕ), by omega⟩))
    (hb0 : ∀ w : Fin 768, b0 (ix3 0 w r) = bArr m c (ix3 ⟨0, by norm_num⟩ w r))
    (hb1 : ∀ w : Fin 768, b1 (ix3 0 w r) = bArr m c (ix3 ⟨1, by norm_num⟩ w r))
    (h0 : ∀ x : Fin 256, V0 (ix4 0 0 l x) = vArr m c
      (ix4 ⟨t.val / 32, by have := (crd t).2; omega⟩ ⟨t.val % 32 + 0, by omega⟩ ⟨0 + (l : ℕ), by omega⟩ x))
    (h1 : ∀ x : Fin 256, V1 (ix4 0 0 l x) = vArr m c
      (ix4 ⟨t.val / 32, by have := (crd t).2; omega⟩ ⟨t.val % 32 + 1, by omega⟩ ⟨0 + (l : ℕ), by omega⟩ x))
    (h2 : ∀ x : Fin 256, V2 (ix4 0 0 l x) = vArr m c
      (ix4 ⟨t.val / 32, by have := (crd t).2; omega⟩ ⟨t.val % 32 + 2, by omega⟩ ⟨0 + (l : ℕ), by omega⟩ x)) :
    k0_pay1 (F := Ideal) (iota .tc S128x256 32 [0] iota_S128x256_d0_w32) (k0_pay41 (F := Ideal) (k0_pay38 (F := Ideal) (k0_pay9 (F := Ideal) (grid0.coords t) q k b0) (k0_pay8 (F := Ideal) (grid0.coords t) q k b0)) (k0_pay39 (F := Ideal) (k0_pay9 (F := Ideal) (grid0.coords t) q k b0) (k0_pay8 (F := Ideal) (grid0.coords t) q k b0)) (k0_pay40 (F := Ideal) (k0_pay9 (F := Ideal) (grid0.coords t) q k b0) (k0_pay8 (F := Ideal) (grid0.coords t) q k b0) V0 V1) V2) (k0_pay42 (F := Ideal) (k0_pay13 (F := Ideal) (k0_pay6 (grid0.coords t)) (k0_pay10 (F := Ideal) q) (iota .tc S256x128 32 [1] iota_S256x128_d1_w32) 64#32 k b1) (k0_pay12 (F := Ideal) (k0_pay6 (grid0.coords t)) (k0_pay10 (F := Ideal) q) (iota .tc S256x128 32 [1] iota_S256x128_d1_w32) 64#32 k b1) V0 V1 V2) (ix2 r l) = G m c j := by
  have hc := (crd t).2
  have hr := r.isLt
  have hl := l.isLt
  refine (pair0 _ _ _ _ _ _ _ _ r l).trans ?_
  split_ifs with hl'
  · exact assemble m c t q k b0 V0 V1 V2 r l j _ _ ⟨0, by norm_num⟩ _ _ 0 (by norm_num) rfl _ _ hj rfl (by show (0 + (l : ℕ)) / 64 = 0; omega)
      rfl rfl hq hk hb0 h0 h1 h2
  · exact assemble m c t q k b1 V0 V1 V2 r l j _ _ ⟨1, by norm_num⟩ _ _ 0 (by norm_num) rfl _ _ hj rfl (by show (0 + (l : ℕ)) / 64 = 1; omega)
      rfl rfl hq hk hb1 h0 h1 h2

theorem piece1 (c : Dev nD) (t : Fin cfg0.N) (q : FVec Ideal S256x512 .f32) (k : FVec Ideal S1x768x128 .bf16)
    (b0 b1 : FVec Ideal S1x768x256 .f32) (V0 V1 V2 : FVec Ideal S1x1x128x256 .bf16) (r : Fin 256) (l : Fin 128) (j : S32768x512.Idx)
    (hj : j = ix2 ⟨t.val * 256 + (r : ℕ), by have := (crd t).2; omega⟩ ⟨128 + (l : ℕ), by omega⟩)
    (hq : ∀ x : Fin 512, q (ix2 r x) = qArr m c (ix2 ⟨t.val * 256 + (r : ℕ), by have := (crd t).2; omega⟩ x))
    (hk : ∀ (w : Fin 768) (x : Fin 128), k (ix3 0 w x) = kArr m c
      (ix3 ⟨t.val / 32, by have := (crd t).2; omega⟩ ⟨t.val % 32 * 256 + (w : ℕ), by omega⟩ ⟨128 + (x : ℕ), by omega⟩))
    (hb0 : ∀ w : Fin 768, b0 (ix3 0 w r) = bArr m c (ix3 ⟨2, by norm_num⟩ w r))
    (hb1 : ∀ w : Fin 768, b1 (ix3 0 w r) = bArr m c (ix3 ⟨3, by norm_num⟩ w r))
    (h0 : ∀ x : Fin 256, V0 (ix4 0 0 l x) = vArr m c
      (ix4 ⟨t.val / 32, by have := (crd t).2; omega⟩ ⟨t.val % 32 + 0, by omega⟩ ⟨128 + (l : ℕ), by omega⟩ x))
    (h1 : ∀ x : Fin 256, V1 (ix4 0 0 l x) = vArr m c
      (ix4 ⟨t.val / 32, by have := (crd t).2; omega⟩ ⟨t.val % 32 + 1, by omega⟩ ⟨128 + (l : ℕ), by omega⟩ x))
    (h2 : ∀ x : Fin 256, V2 (ix4 0 0 l x) = vArr m c
      (ix4 ⟨t.val / 32, by have := (crd t).2; omega⟩ ⟨t.val % 32 + 2, by omega⟩ ⟨128 + (l : ℕ), by omega⟩ x)) :
    k0_pay2 (F := Ideal) (iota .tc S128x256 32 [0] iota_S128x256_d0_w32) (k0_pay43 (F := Ideal) (k0_pay18 (F := Ideal) (k0_pay6 (grid0.coords t)) (k0_pay14 (F := Ideal) (k0_pay5 (F := Ideal) q) k b0) (k0_pay15 (F := Ideal))) (k0_pay17 (F := Ideal) (k0_pay6 (grid0.coords t)) (k0_pay14 (F := Ideal) (k0_pay5 (F := Ideal) q) k b0) (k0_pay15 (F := Ideal))) V0 V1 V2) (k0_pay45 (F := Ideal) (k0_pay44 (F := Ideal) (k0_pay21 (F := Ideal) (k0_pay5 (F := Ideal) q) (k0_pay6 (grid0.coords t)) k b1) (k0_pay20 (F := Ideal) (k0_pay5 (F := Ideal) q) (k0_pay6 (grid0.coords t)) k b1)) V0 V1 V2) (ix2 r l) = G m c j := by
  have hc := (crd t).2
  have hr := r.isLt
  have hl := l.isLt
  refine (pair1 _ _ _ _ _ _ _ _ r l).trans ?_
  split_ifs with hl'
  · exact assemble m c t q k b0 V0 V1 V2 r l j _ _ ⟨2, by norm_num⟩ _ _ 128 (by norm_num) rfl _ _ hj rfl (by show (128 + (l : ℕ)) / 64 = 2; omega)
      rfl rfl hq hk hb0 h0 h1 h2
  · exact assemble m c t q k b1 V0 V1 V2 r l j _ _ ⟨3, by norm_num⟩ _ _ 128 (by norm_num) rfl _ _ hj rfl (by show (128 + (l : ℕ)) / 64 = 3; omega)
      rfl rfl hq hk hb1 h0 h1 h2

theorem piece2 (c : Dev nD) (t : Fin cfg0.N) (q : FVec Ideal S256x512 .f32) (k : FVec Ideal S1x768x128 .bf16)
    (b0 b1 : FVec Ideal S1x768x256 .f32) (V0 V1 V2 : FVec Ideal S1x1x128x256 .bf16) (r : Fin 256) (l : Fin 128) (j : S32768x512.Idx)
    (hj : j = ix2 ⟨t.val * 256 + (r : ℕ), by have := (crd t).2; omega⟩ ⟨256 + (l : ℕ), by omega⟩)
    (hq : ∀ x : Fin 512, q (ix2 r x) = qArr m c (ix2 ⟨t.val * 256 + (r : ℕ), by have := (crd t).2; omega⟩ x))
    (hk : ∀ (w : Fin 768) (x : Fin 128), k (ix3 0 w x) = kArr m c
      (ix3 ⟨t.val / 32, by have := (crd t).2; omega⟩ ⟨t.val % 32 * 256 + (w : ℕ), by omega⟩ ⟨256 + (x : ℕ), by omega⟩))
    (hb0 : ∀ w : Fin 768, b0 (ix3 0 w r) = bArr m c (ix3 ⟨4, by norm_num⟩ w r))
    (hb1 : ∀ w : Fin 768, b1 (ix3 0 w r) = bArr m c (ix3 ⟨5, by norm_num⟩ w r))
    (h0 : ∀ x : Fin 256, V0 (ix4 0 0 l x) = vArr m c
      (ix4 ⟨t.val / 32, by have := (crd t).2; omega⟩ ⟨t.val % 32 + 0, by omega⟩ ⟨256 + (l : ℕ), by omega⟩ x))
    (h1 : ∀ x : Fin 256, V1 (ix4 0 0 l x) = vArr m c
      (ix4 ⟨t.val / 32, by have := (crd t).2; omega⟩ ⟨t.val % 32 + 1, by omega⟩ ⟨256 + (l : ℕ), by omega⟩ x))
    (h2 : ∀ x : Fin 256, V2 (ix4 0 0 l x) = vArr m c
      (ix4 ⟨t.val / 32, by have := (crd t).2; omega⟩ ⟨t.val % 32 + 2, by omega⟩ ⟨256 + (l : ℕ), by omega⟩ x)) :
    k0_pay3 (F := Ideal) (iota .tc S128x256 32 [0] iota_S128x256_d0_w32) (k0_pay49 (F := Ideal) (k0_pay47 (F := Ideal) (k0_pay25 (F := Ideal) (k0_pay6 (grid0.coords t)) (k0_pay22 (F := Ideal) (k0_pay5 (F := Ideal) q)) k b0) (k0_pay24 (F := Ideal) (k0_pay6 (grid0.coords t)) (k0_pay22 (F := Ideal) (k0_pay5 (F := Ideal) q)) k b0)) (k0_pay48 (F := Ideal) (k0_pay25 (F := Ideal) (k0_pay6 (grid0.coords t)) (k0_pay22 (F := Ideal) (k0_pay5 (F := Ideal) q)) k b0) (k0_pay24 (F := Ideal) (k0_pay6 (grid0.coords t)) (k0_pay22 (F := Ideal) (k0_pay5 (F := Ideal) q)) k b0)) V0 V1 V2) (k0_pay54 (F := Ideal) (k0_pay51 (F := Ideal) (k0_pay28 (F := Ideal) (k0_pay26 (F := Ideal) (k0_pay5 (F := Ideal) q) (k0_pay6 (grid0.coords t)) k b1)) (k0_pay27 (F := Ideal) (k0_pay5 (F := Ideal) q) (k0_pay6 (grid0.coords t)) k b1)) (k0_pay52 (F := Ideal) (k0_pay28 (F := Ideal) (k0_pay26 (F := Ideal) (k0_pay5 (F := Ideal) q) (k0_pay6 (grid0.coords t)) k b1)) (k0_pay27 (F := Ideal) (k0_pay5 (F := Ideal) q) (k0_pay6 (grid0.coords t)) k b1)) (k0_pay53 (F := Ideal) (k0_pay28 (F := Ideal) (k0_pay26 (F := Ideal) (k0_pay5 (F := Ideal) q) (k0_pay6 (grid0.coords t)) k b1)) (k0_pay27 (F := Ideal) (k0_pay5 (F := Ideal) q) (k0_pay6 (grid0.coords t)) k b1) V0) V1 V2) (ix2 r l) = G m c j := by
  have hc := (crd t).2
  have hr := r.isLt
  have hl := l.isLt
  refine (pair2 _ _ _ _ _ _ _ _ r l).trans ?_
  split_ifs with hl'
  · exact assemble m c t q k b0 V0 V1 V2 r l j _ _ ⟨4, by norm_num⟩ _ _ 256 (by norm_num) rfl _ _ hj rfl (by show (256 + (l : ℕ)) / 64 = 4; omega)
      rfl rfl hq hk hb0 h0 h1 h2
  · exact assemble m c t q k b1 V0 V1 V2 r l j _ _ ⟨5, by norm_num⟩ _ _ 256 (by norm_num) rfl _ _ hj rfl (by show (256 + (l : ℕ)) / 64 = 5; omega)
      rfl rfl hq hk hb1 h0 h1 h2

theorem piece3 (c : Dev nD) (t : Fin cfg0.N) (q : FVec Ideal S256x512 .f32) (k : FVec Ideal S1x768x128 .bf16)
    (b0 b1 : FVec Ideal S1x768x256 .f32) (V0 V1 V2 : FVec Ideal S1x1x128x256 .bf16) (r : Fin 256) (l : Fin 128) (j : S32768x512.Idx)
    (hj : j = ix2 ⟨t.val * 256 + (r : ℕ), by have := (crd t).2; omega⟩ ⟨384 + (l : ℕ), by omega⟩)
    (hq : ∀ x : Fin 512, q (ix2 r x) = qArr m c (ix2 ⟨t.val * 256 + (r : ℕ), by have := (crd t).2; omega⟩ x))
    (hk : ∀ (w : Fin 768) (x : Fin 128), k (ix3 0 w x) = kArr m c
      (ix3 ⟨t.val / 32, by have := (crd t).2; omega⟩ ⟨t.val % 32 * 256 + (w : ℕ), by omega⟩ ⟨384 + (x : ℕ), by omega⟩))
    (hb0 : ∀ w : Fin 768, b0 (ix3 0 w r) = bArr m c (ix3 ⟨6, by norm_num⟩ w r))
    (hb1 : ∀ w : Fin 768, b1 (ix3 0 w r) = bArr m c (ix3 ⟨7, by norm_num⟩ w r))
    (h0 : ∀ x : Fin 256, V0 (ix4 0 0 l x) = vArr m c
      (ix4 ⟨t.val / 32, by have := (crd t).2; omega⟩ ⟨t.val % 32 + 0, by omega⟩ ⟨384 + (l : ℕ), by omega⟩ x))
    (h1 : ∀ x : Fin 256, V1 (ix4 0 0 l x) = vArr m c
      (ix4 ⟨t.val / 32, by have := (crd t).2; omega⟩ ⟨t.val % 32 + 1, by omega⟩ ⟨384 + (l : ℕ), by omega⟩ x))
    (h2 : ∀ x : Fin 256, V2 (ix4 0 0 l x) = vArr m c
      (ix4 ⟨t.val / 32, by have := (crd t).2; omega⟩ ⟨t.val % 32 + 2, by omega⟩ ⟨384 + (l : ℕ), by omega⟩ x)) :
    k0_pay4 (F := Ideal) (iota .tc S128x256 32 [0] iota_S128x256_d0_w32) (k0_pay60 (F := Ideal) (k0_pay56 (F := Ideal) (k0_pay31 (F := Ideal) (k0_pay5 (F := Ideal) q) (k0_pay6 (grid0.coords t)) k b0) (k0_pay30 (F := Ideal) (k0_pay5 (F := Ideal) q) (k0_pay6 (grid0.coords t)) k b0)) (k0_pay57 (F := Ideal) (k0_pay31 (F := Ideal) (k0_pay5 (F := Ideal) q) (k0_pay6 (grid0.coords t)) k b0) (k0_pay30 (F := Ideal) (k0_pay5 (F := Ideal) q) (k0_pay6 (grid0.coords t)) k b0)) (k0_pay58 (F := Ideal) (k0_pay31 (F := Ideal) (k0_pay5 (F := Ideal) q) (k0_pay6 (grid0.coords t)) k b0) (k0_pay30 (F := Ideal) (k0_pay5 (F := Ideal) q) (k0_pay6 (grid0.coords t)) k b0) V0) (k0_pay59 (F := Ideal) (k0_pay31 (F := Ideal) (k0_pay5 (F := Ideal) q) (k0_pay6 (grid0.coords t)) k b0) (k0_pay30 (F := Ideal) (k0_pay5 (F := Ideal) q) (k0_pay6 (grid0.coords t)) k b0) V1) V2) (k0_pay62 (F := Ideal) (k0_pay36 (F := Ideal) (k0_pay6 (grid0.coords t)) (k0_pay32 (F := Ideal) (k0_pay5 (F := Ideal) q) k) (k0_pay33 (F := Ideal) b1) (Named.named (F := Ideal) κ "log2e" (φ := .f32) 0x3FB8AA3B#32)) (k0_pay35 (F := Ideal) (k0_pay6 (grid0.coords t)) (k0_pay32 (F := Ideal) (k0_pay5 (F := Ideal) q) k) (k0_pay33 (F := Ideal) b1) (Named.named (F := Ideal) κ "log2e" (φ := .f32) 0x3FB8AA3B#32))) (k0_pay63 (F := Ideal) (k0_pay36 (F := Ideal) (k0_pay6 (grid0.coords t)) (k0_pay32 (F := Ideal) (k0_pay5 (F := Ideal) q) k) (k0_pay33 (F := Ideal) b1) (Named.named (F := Ideal) κ "log2e" (φ := .f32) 0x3FB8AA3B#32)) (k0_pay35 (F := Ideal) (k0_pay6 (grid0.coords t)) (k0_pay32 (F := Ideal) (k0_pay5 (F := Ideal) q) k) (k0_pay33 (F := Ideal) b1) (Named.named (F := Ideal) κ "log2e" (φ := .f32) 0x3FB8AA3B#32))) (k0_pay64 (F := Ideal) (k0_pay36 (F := Ideal) (k0_pay6 (grid0.coords t)) (k0_pay32 (F := Ideal) (k0_pay5 (F := Ideal) q) k) (k0_pay33 (F := Ideal) b1) (Named.named (F := Ideal) κ "log2e" (φ := .f32) 0x3FB8AA3B#32)) (k0_pay35 (F := Ideal) (k0_pay6 (grid0.coords t)) (k0_pay32 (F := Ideal) (k0_pay5 (F := Ideal) q) k) (k0_pay33 (F := Ideal) b1) (Named.named (F := Ideal) κ "log2e" (φ := .f32) 0x3FB8AA3B#32)) V0 V1) (k0_pay65 (F := Ideal) V2) (ix2 r l) = G m c j := by
  have hc := (crd t).2
  have hr := r.isLt
  have hl := l.isLt
  refine (pair3 _ _ _ _ _ _ _ _ r l).trans ?_
  split_ifs with hl'
  · exact assemble m c t q k b0 V0 V1 V2 r l j _ _ ⟨6, by norm_num⟩ _ _ 384 (by norm_num) rfl _ _ hj rfl (by show (384 + (l : ℕ)) / 64 = 6; omega)
      rfl rfl hq hk hb0 h0 h1 h2
  · exact assemble m c t q k b1 V0 V1 V2 r l j _ _ ⟨7, by norm_num⟩ _ _ 384 (by norm_num) rfl _ _ hj rfl (by show (384 + (l : ℕ)) / 64 = 7; omega)
      rfl rfl hq hk hb1 h0 h1 h2

set_option maxHeartbeats 2000000 in
theorem final (c : Dev nD) : (dats m 0 c).arrAt 4 (cfgs 0).N = G m c := by
  refine (dats m 0 c).arrAt_eq_of_covers 4 _ (by decide +kernel) fun t hf y => ?_
  have hi4 := (idx t).2.2.2.2
  blk_simp; rw [after0_4]
  unfold Gen.outsAt0
  frame_out
  rw [readback0 (ho := off5_0 t), readback1 (ho := off5_1 t), readback2 (ho := off5_2 t), readback3 (ho := off5_3 t),
    readback4 (ho := off5_4 t), readback5 (ho := off5_5 t), readback6 (ho := off5_6 t), readback7 (ho := off5_7 t)]
  canon_tiles x h
  case piece3 =>
    obtain ⟨r, l, rfl⟩ : ∃ (r : Fin 256) (l : Fin 128), x = ix2 r l := ⟨x 0, x 1, eq_ix2 x⟩
    refine piece0 m c t _ _ _ _ _ _ _ r l _ ?_ (rdq m c t r) ?_ ?_ ?_ ?_ ?_ ?_
    · blk_ext [hi4, h0, h1]
    · exact fun w x => (ldk _ _ _ _ _ (off1 t) w x (by omega) (by omega)).trans (rdk m c t _ _)
    · exact fun w => (ldb _ _ _ _ rfl w r (by omega)).trans (rdb m c t _ _ _)
    · exact fun w => (ldb _ _ _ _ rfl w r (by omega)).trans (rdb m c t _ _ _)
    · exact fun x => (ldv _ _ _ _ _ (off6_0 t) l x (by omega) (by omega)).trans (rdv m c t _ _ _)
    · exact fun x => (ldv _ _ _ _ _ (off6_1 t) l x (by omega) (by omega)).trans (rdv m c t _ _ _)
    · exact fun x => (ldv _ _ _ _ _ (off6_2 t) l x (by omega) (by omega)).trans (rdv m c t _ _ _)
  case piece2 =>
    obtain ⟨r, l, rfl⟩ : ∃ (r : Fin 256) (l : Fin 128), x = ix2 r l := ⟨x 0, x 1, eq_ix2 x⟩
    refine piece1 m c t _ _ _ _ _ _ _ r l _ ?_ (rdq m c t r) ?_ ?_ ?_ ?_ ?_ ?_
    · blk_ext [hi4, h0, h1]
    · exact fun w x => (ldk _ _ _ _ _ (off2 t) w x (by omega) (by omega)).trans (rdk m c t _ _)
    · exact fun w => (ldb _ _ _ _ rfl w r (by omega)).trans (rdb m c t _ _ _)
    · exact fun w => (ldb _ _ _ _ rfl w r (by omega)).trans (rdb m c t _ _ _)
    · exact fun x => (ldv _ _ _ _ _ (off7_0 t) l x (by omega) (by omega)).trans (rdv m c t _ _ _)
    · exact fun x => (ldv _ _ _ _ _ (off7_1 t) l x (by omega) (by omega)).trans (rdv m c t _ _ _)
    · exact fun x => (ldv _ _ _ _ _ (off7_2 t) l x (by omega) (by omega)).trans (rdv m c t _ _ _)
  case piece1 =>
    obtain ⟨r, l, rfl⟩ : ∃ (r : Fin 256) (l : Fin 128), x = ix2 r l := ⟨x 0, x 1, eq_ix2 x⟩
    refine piece2 m c t _ _ _ _ _ _ _ r l _ ?_ (rdq m c t r) ?_ ?_ ?_ ?_ ?_ ?_
    · blk_ext [hi4, h0, h1]
    · exact fun w x => (ldk _ _ _ _ _ (off3 t) w x (by omega) (by omega)).trans (rdk m c t _ _)
    · exact fun w => (ldb _ _ _ _ rfl w r (by omega)).trans (rdb m c t _ _ _)
    · exact fun w => (ldb _ _ _ _ rfl w r (by omega)).trans (rdb m c t _ _ _)
    · exact fun x => (ldv _ _ _ _ _ (off8_0 t) l x (by omega) (by omega)).trans (rdv m c t _ _ _)
    · exact fun x => (ldv _ _ _ _ _ (off8_1 t) l x (by omega) (by omega)).trans (rdv m c t _ _ _)
    · exact fun x => (ldv _ _ _ _ _ (off8_2 t) l x (by omega) (by omega)).trans (rdv m c t _ _ _)
  case piece0 =>
    obtain ⟨r, l, rfl⟩ : ∃ (r : Fin 256) (l : Fin 128), x = ix2 r l := ⟨x 0, x 1, eq_ix2 x⟩
    refine piece3 m c t _ _ _ _ _ _ _ r l _ ?_ (rdq m c t r) ?_ ?_ ?_ ?_ ?_ ?_
    · blk_ext [hi4, h0, h1]
    · exact fun w x => (ldk _ _ _ _ _ (off4 t) w x (by omega) (by omega)).trans (rdk m c t _ _)
    · exact fun w => (ldb _ _ _ _ rfl w r (by omega)).trans (rdb m c t _ _ _)
    · exact fun w => (ldb _ _ _ _ rfl w r (by omega)).trans (rdb m c t _ _ _)
    · exact fun x => (ldv _ _ _ _ _ (off9_0 t) l x (by omega) (by omega)).trans (rdv m c t _ _ _)
    · exact fun x => (ldv _ _ _ _ _ (off9_1 t) l x (by omega) (by omega)).trans (rdv m c t _ _ _)
    · exact fun x => (ldv _ _ _ _ _ (off9_2 t) l x (by omega) (by omega)).trans (rdv m c t _ _ _)

end Cert.BandIdeal.Point

end
-- ==== Proof.Entry.lean ====
module

public import proofs.«01_k».proof.Proof.Gen.BandIdeal.Value
public import Idealize.ShloMosaic.Lib.Pipeline.ValueKit
public import Idealize.ShloMosaic.Lib.Pipeline.ReadBack
public import Idealize.ShloMosaic.Lib.Pointwise
public import proofs.«01_k».proof.Proof.Point
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.BandIdeal.Entry

open Cert.BandIdeal Cert.BandIdeal.Gen Cert.BandIdeal.Point Idealize.ShloMosaic.StableHlo

/-- A head-major array with 512 rows of zeros before each batch element's rows. -/
def padv (a : S32768x512.Idx → EReal) : S4x8704x512.Idx → EReal :=
  pad S4x8704x512 ![0, 512, 0] ![0, 0, 0] ![0, 0, 0]
    (shapeCast S4x8192x512 (truncf (F := Ideal) (φ := .f32) .bf16 a bitsLt_bf16_f32) shapeCasts_S32768x512_S4x8192x512 : S4x8192x512.Idx → EReal)
    (sitofp (F := Ideal) .bf16 (constantI S_ 32 0#32)) pads_S4x8192x512_S4x8704x512_000_51200_000 h_S_

/-- The padded values, by tiles of 256 rows, the rows last. -/
def vv (a : S32768x512.Idx → EReal) : S4x34x512x256.Idx → EReal :=
  transpose S4x34x512x256 [0, 1, 3, 2] (shapeCast S4x34x256x512 (padv a) shapeCasts_S4x8704x512_S4x34x256x512 : S4x34x256x512.Idx → EReal)
    transposes_S4x34x256x512_S4x34x512x256_0_1_3_2

/-- The chunk of a window position. -/
def cw : S1x768.Idx → BitVec 32 :=
  let x := broadcastInDim S1x768 ![1] bcast_S768_S1x768_1 (iotaInDim S768 32 0)
  let d := broadcastInDim S1x768 ![] bcast_S_S1x768 (constantI S_ 32 64#32)
  let q := Host.divsi x d
  select (andi (cmpi .ne (signi x) (broadcastInDim S1x768 ![] bcast_S_S1x768 (signi (constantI S_ 32 64#32))))
      (cmpi .ne (Host.remsi x d) (broadcastInDim S1x768 ![] bcast_S_S1x768 (constantI S_ 32 0#32))))
    (subi q (broadcastInDim S1x768 ![] bcast_S_S1x768 (constantI S_ 32 1#32))) q

/-- The chunk of a query row. -/
def cr : S256x1.Idx → BitVec 32 :=
  let x := broadcastInDim S256x1 ![0] bcast_S256_S256x1_0 (iotaInDim S256 32 0)
  let d := broadcastInDim S256x1 ![] bcast_S_S256x1 (constantI S_ 32 64#32)
  let q := Host.divsi x d
  select (andi (cmpi .ne (signi x) (broadcastInDim S256x1 ![] bcast_S_S256x1 (signi (constantI S_ 32 64#32))))
      (cmpi .ne (Host.remsi x d) (broadcastInDim S256x1 ![] bcast_S_S256x1 (constantI S_ 32 0#32))))
    (subi q (broadcastInDim S256x1 ![] bcast_S_S256x1 (constantI S_ 32 1#32))) q

/-- Whether a window position lies in a query row's band. -/
def band : S256x768.Idx → BitVec 1 :=
  andi (cmpi .sge (broadcastInDim S256x768 ![0, 1] bcast_S1x768_S256x768_0_1 cw) (broadcastInDim S256x768 ![0, 1] bcast_S256x1_S256x768_0_1 cr))
    (cmpi .sle (broadcastInDim S256x768 ![0, 1] bcast_S1x768_S256x768_0_1 cw)
      (broadcastInDim S256x768 ![0, 1] bcast_S256x1_S256x768_0_1 (addi cr (broadcastInDim S256x1 ![] bcast_S_S256x1 (constantI S_ 32 8#32)))))

/-- The relative bias gathered at the distances 1024 long. -/
def gat (a : S1x8x257.Idx → EReal) : S8x1024.Idx → EReal :=
  Host.gather gather_S8x257_S1024x1_S8x1024_0_1_n_n_1_1_81 (shapeCast S8x257 a shapeCasts_S1x8x257_S8x257 : S8x257.Idx → EReal)
    (broadcastInDim S1024x1 ![0] bcast_S1024_S1024x1_0
      (select (constantI S1024 1 0#1)
        (addi (fun i => lit0 (S1024.rowMajor i)) (broadcastInDim S1024 ![] bcast_S_S1024 (constantI S_ 32 257#32)))
        fun i => lit0 (S1024.rowMajor i)))

/-- The gathered bias, scaled and laid out along the diagonals. -/
def skew (a : S1x8x257.Idx → EReal) : S8x256x768.Idx → EReal :=
  extractStridedSlice S8x256x768 ![0, 0, 255]
    (shapeCast S8x256x1023
      (extractStridedSlice S8x261888 ![0, 0]
        (shapeCast S8x262144
          (broadcastInDim S1x8x256x1024 ![0, 1, 2, 3] bcast_S1x8x1x1024_S1x8x256x1024_0_1_2_3
            (shapeCast S1x8x1x1024 (gat a)
              shapeCasts_S8x1024_S1x8x1x1024 : S1x8x1x1024.Idx → EReal))
          shapeCasts_S1x8x256x1024_S8x262144 : S8x262144.Idx → EReal)
        slices_S8x262144_S8x261888_0_0)
      shapeCasts_S8x261888_S8x256x1023 : S8x256x1023.Idx → EReal)
    slices_S8x256x1023_S8x256x768_0_0_255

/-- The bias table the kernel is handed. -/
def bv (a : S1x8x257.Idx → EReal) : S8x768x256.Idx → EReal :=
  transpose S8x768x256 [0, 2, 1]
    (select (broadcastInDim S8x256x768 ![0, 1, 2] bcast_S1x256x768_S8x256x768_0_1_2 (broadcastInDim S1x256x768 ![1, 2] bcast_S256x768_S1x256x768_1_2 band))
      (skew a) (broadcastInDim S8x256x768 ![] bcast_S_S8x256x768 (constant (F := Ideal) S_ .f32 0xFF800000#32)))
    transposes_S8x256x768_S8x768x256_0_2_1

variable (m : (ℓ : Loc nD τ sig) → Buf (Elt Ideal) ℓ)

theorem q_eq (c : Dev nD) : V m c main_arg0 = m ((c : Thread nD τ).loc main_arg0) := V_main_arg0 m c

theorem k_eq (c : Dev nD) : V m c main_v3 = padv (m ((c : Thread nD τ).loc main_arg1)) := by
  unfold V
  simp only [List.flatten_cons, List.flatten_nil, List.append_nil, List.cons_append, List.nil_append,
    TRef.binary, TRef.nullary, TRef.ternary, TRef.unary, TRef.toBuf, TRef.ofBuf, cast_eq]
  after_reads_simp
  unfold padv
  rfl

theorem v_eq (c : Dev nD) : V m c main_v38 = vv (m ((c : Thread nD τ).loc main_arg2)) := by
  unfold V
  simp only [List.flatten_cons, List.flatten_nil, List.append_nil, List.cons_append, List.nil_append,
    TRef.binary, TRef.nullary, TRef.ternary, TRef.unary, TRef.toBuf, TRef.ofBuf, cast_eq]
  after_reads_simp
  unfold vv padv
  rfl

set_option maxHeartbeats 2000000 in
theorem b_eq (c : Dev nD) : V m c main_v39 = bv (m ((c : Thread nD τ).loc main_arg3)) := by
  unfold V
  simp only [List.flatten_cons, List.flatten_nil, List.append_nil, List.cons_append, List.nil_append,
    TRef.binary, TRef.nullary, TRef.ternary, TRef.unary, TRef.toBuf, TRef.ofBuf, cast_eq]
  after_reads_simp
  unfold bv skew gat band cw cr
  rfl

theorem pad_at (a : S32768x512.Idx → EReal) (b : Fin 4) (w : Fin 8704) (x : Fin 512) (hw : 512 ≤ (w : ℕ)) :
    padv a (ix3 b w x) = a (ix2 ⟨b * 8192 + (w - 512), by omega⟩ x) := by
  pointwise [padv]
  rw [dif_pos ⟨hw, by omega⟩]

theorem v_at (a : S32768x512.Idx → EReal) (b : Fin 4) (t : Fin 34) (l : Fin 512) (x : Fin 256) (hw : 2 ≤ (t : ℕ)) :
    vv a (ix4 b t l x) = a (ix2 ⟨b * 8192 + (t * 256 + x - 512), by omega⟩ l) := by
  have h : vv a (ix4 b t l x) = padv a (ix3 b ⟨t * 256 + x, by omega⟩ l) := by
    pointwise [vv]
  rw [h, pad_at a _ _ _ (by simp only; omega)]

theorem cw_at (w : Fin 768) : cw (ix2 (0 : Fin 1) w) = BitVec.ofNat 32 ((w : ℕ) / 64) := by
  pointwise [cw]
  revert w
  decide +kernel

theorem cr_at (i : Fin 256) : cr (ix2 i (0 : Fin 1)) = BitVec.ofNat 32 ((i : ℕ) / 64) := by
  pointwise [cr]
  revert i
  decide +kernel

theorem band_dec : ∀ (p : Fin 12) (q : Fin 4),
    IntOp.andi (IntOp.cmpi .sge (BitVec.ofNat 32 (p : ℕ)) (BitVec.ofNat 32 (q : ℕ)))
      (IntOp.cmpi .sle (BitVec.ofNat 32 (p : ℕ)) (IntOp.addi (BitVec.ofNat 32 (q : ℕ)) 8#32))
      = if (q : ℕ) ≤ p ∧ (p : ℕ) ≤ q + 8 then 1#1 else 0#1 := by decide +kernel

theorem band_at (i : Fin 256) (w : Fin 768) :
    band (ix2 i w) = if (i : ℕ) / 64 ≤ w / 64 ∧ (w : ℕ) / 64 ≤ i / 64 + 8 then 1#1 else 0#1 := by
  pointwise [band]
  rw [cw_at, cr_at]
  exact band_dec ⟨w / 64, by omega⟩ ⟨i / 64, by omega⟩

theorem lit_at : ∀ u : Fin 1024, lit0 u = BitVec.ofNat 32 (min (895 - (u : ℕ)) 256) := by decide +kernel

/-- The columns of the operand that the indices name, clamped to its extent. -/
theorem gather_at (x : S8x257.Idx → EReal) (idx : IVec S1024x1 32) (h : Fin 8) (u : Fin 1024) :
    Host.gather gather_S8x257_S1024x1_S8x1024_0_1_n_n_1_1_81 x idx (ix2 h u)
      = x (ix2 h ⟨min (idx (ix2 u (0 : Fin 1))).toInt.toNat 256, by omega⟩) := by
  unfold Host.gather
  congr 1
  funext a
  refine Fin.ext ?_
  set D := gather_S8x257_S1024x1_S8x1024_0_1_n_n_1_1_81 with hD
  show D.start (ix2 h u) idx a + D.batchCoord (ix2 h u) a + D.offCoord (ix2 h u) a = _
  rw [GatherDims.batchCoord_eq_zero _ _ _ (fun h => by simp [hD, gather_S8x257_S1024x1_S8x1024_0_1_n_n_1_1_81] at h)]
  match a with
  | ⟨0, _⟩ =>
    have h1 : D.start (ix2 h u) idx ⟨0, by decide⟩ = 0 := by
      unfold GatherDims.start
      rw [dif_neg (by simp [hD, gather_S8x257_S1024x1_S8x1024_0_1_n_n_1_1_81])]
    have h2 : D.offCoord (ix2 h u) ⟨0, by decide⟩ = h := by
      unfold GatherDims.offCoord
      rw [dif_pos ((GatherDims.mem_sKept _ _).mpr (by simp [hD, gather_S8x257_S1024x1_S8x1024_0_1_n_n_1_1_81]))]
      rfl
    show D.start (ix2 h u) idx ⟨0, by decide⟩ + 0 + D.offCoord (ix2 h u) ⟨0, by decide⟩ = h
    rw [h1, h2]; omega
  | ⟨1, _⟩ =>
    have h2 : D.offCoord (ix2 h u) ⟨1, by decide⟩ = 0 :=
      GatherDims.offCoord_eq_zero _ _ _ (fun h => ((GatherDims.mem_sKept _ _).mp h).1 (List.mem_singleton.mpr rfl))
    have h1 : D.start (ix2 h u) idx ⟨1, by decide⟩ = min (idx (ix2 u (0 : Fin 1))).toInt.toNat 256 := by
      unfold GatherDims.start
      rw [dif_pos (show (⟨1, by decide⟩ : Fin 2) ∈ D.startIndexMap from List.mem_singleton.mpr rfl)]
      have hsi : D.siIdx (ix2 h u) ⟨List.idxOf (⟨1, by decide⟩ : Fin 2) D.startIndexMap,
          List.idxOf_lt_length_iff.2 (List.mem_singleton.mpr rfl)⟩ = ix2 u (0 : Fin 1) := by
        funext b; refine Fin.ext ?_
        match b with
        | ⟨0, _⟩ => rfl
        | ⟨1, _⟩ => rfl
      rw [hsi]
      rfl
    show D.start (ix2 h u) idx ⟨1, by decide⟩ + 0 + D.offCoord (ix2 h u) ⟨1, by decide⟩ = min (idx (ix2 u (0 : Fin 1))).toInt.toNat 256
    rw [h1, h2]
    rfl

theorem toNat_dec : ∀ u : Fin 257, (BitVec.ofNat 32 (u : ℕ)).toInt.toNat = u := by decide +kernel

theorem gat_at (a : S1x8x257.Idx → EReal) (h : Fin 8) (u : Fin 1024) :
    gat a (ix2 h u) = a (ix3 (0 : Fin 1) h ⟨min (895 - u) 256, by omega⟩) := by
  unfold gat
  rw [gather_at]
  pointwise
  refine congrArg a (congrArg _ (Fin.ext ?_))
  have hu : S1024.rowMajor (ix1 u) = u := Fin.ext (by simp [Shape.rowMajor_val_one])
  simp only
  rw [hu, lit_at, toNat_dec ⟨min (895 - (u : ℕ)) 256, by omega⟩]
  simp only
  omega

theorem skew_at (a : S1x8x257.Idx → EReal) (h : Fin 8) (i : Fin 256) (w : Fin 768) :
    skew a (ix3 h i w) = a (ix3 (0 : Fin 1) h ⟨min (640 + i - w) 256, by omega⟩) := by
  pointwise [skew]
  rw [gat_at]
  refine congrArg a (congrArg _ (Fin.ext ?_))
  have hu : ((i : ℕ) * 1023 + (255 + w)) % 1024 = 255 + w - i := by
    rw [show (i : ℕ) * 1023 + (255 + w) = (255 + w - i) + 1024 * i by omega, Nat.add_mul_mod_self_left,
      Nat.mod_eq_of_lt (by omega)]
  simp only
  rw [hu]
  omega

/-- The bias table at a head, a window position and a query row. -/
theorem b_at (a : S1x8x257.Idx → EReal) (h : Fin 8) (w : Fin 768) (i : Fin 256) :
    bv a (ix3 h w i) = if (i : ℕ) / 64 ≤ w / 64 ∧ (w : ℕ) / 64 ≤ i / 64 + 8
      then a (ix3 (0 : Fin 1) h ⟨min (640 + i - w) 256, by omega⟩) else ⊥ := by
  pointwise [bv]
  rw [band_at, skew_at, Score.neg_inf]
  split
  · rfl
  · rfl

end Cert.BandIdeal.Entry

end
-- ==== Proof.RefAt.lean ====
module

public import proofs.«01_k».proof.Proof.Gen.BandRefIdeal
public import Idealize.ShloMosaic.Lib.Pipeline.ValueKit
public import Idealize.ShloMosaic.Lib.Pipeline.ReadBack
public import Idealize.ShloMosaic.Lib.Pointwise
public import proofs.«01_k».proof.Proof.Gen.BandRefIdeal.Read
public import proofs.«01_k».proof.Proof.Gen.BandRefIdeal.Run

@[expose] public section

set_option maxRecDepth 16384

noncomputable section

open Idealize.ShloMosaic Idealize.ShloMosaic.TcCoe Idealize.SL.Sem
open Idealize.ShloMosaic.Pipeline (Dat)

namespace Cert.BandRefIdeal.RefAt

open Cert.BandRefIdeal Cert.BandRefIdeal.Gen Cert.BandRefIdeal.Read Idealize.ShloMosaic.StableHlo

variable (x0 x1 x2 : S32768x512.Idx → EReal) (x3 : S1x8x257.Idx → EReal)

theorem pad1_at (b : Fin 4) (n : Fin 136) (s : Fin 64) (h : Fin 8) (d : Fin 64) (hn : 8 ≤ (n : ℕ)) :
    val_main_v1 (F := Ideal) x1 (ix5 b n s h d) = x1 (ix2 ⟨b * 8192 + ((n - 8) * 64 + s), by omega⟩ ⟨64 * h + d, by omega⟩) := by
  pointwise [val_main_v1, val_main_v0]
  rw [dif_pos ⟨hn, by omega⟩]
  exact congrArg₂ (fun p q => x1 (ix2 p q)) (Fin.ext (by simp only; omega)) (Fin.ext (by simp only; omega))

theorem pad2_at (b : Fin 4) (n : Fin 136) (s : Fin 64) (h : Fin 8) (d : Fin 64) (hn : 8 ≤ (n : ℕ)) :
    val_main_v3 (F := Ideal) x2 (ix5 b n s h d) = x2 (ix2 ⟨b * 8192 + ((n - 8) * 64 + s), by omega⟩ ⟨64 * h + d, by omega⟩) := by
  pointwise [val_main_v3, val_main_v2]
  rw [dif_pos ⟨hn, by omega⟩]
  exact congrArg₂ (fun p q => x2 (ix2 p q)) (Fin.ext (by simp only; omega)) (Fin.ext (by simp only; omega))

theorem cat1_at (b : Fin 4) (n : Fin 128) (j : Fin 576) (h : Fin 8) (d : Fin 64) :
    val_main_v13 (F := Ideal) x1 (ix5 b n j h d)
      = val_main_v1 (F := Ideal) x1 (ix5 b ⟨n + j / 64, by omega⟩ ⟨j % 64, by omega⟩ h d) := by
  pointwise [val_main_v13, val_main_v4, val_main_v5, val_main_v6, val_main_v7, val_main_v8, val_main_v9, val_main_v10, val_main_v11, val_main_v12]
  have key : ∀ (p p' : Fin 136) (q q' : Fin 64), (p : ℕ) = p' → (q : ℕ) = q' →
      val_main_v1 (F := Ideal) x1 (ix5 b p q h d) = val_main_v1 (F := Ideal) x1 (ix5 b p' q' h d) := by
    intro p p' q q' e e'
    rw [Fin.ext e, Fin.ext e']
  repeat' split
  all_goals exact key _ _ _ _ (by simp only; omega) (by simp only; omega)

theorem cat2_at (b : Fin 4) (n : Fin 128) (j : Fin 576) (h : Fin 8) (d : Fin 64) :
    val_main_v23 (F := Ideal) x2 (ix5 b n j h d)
      = val_main_v3 (F := Ideal) x2 (ix5 b ⟨n + j / 64, by omega⟩ ⟨j % 64, by omega⟩ h d) := by
  pointwise [val_main_v23, val_main_v14, val_main_v15, val_main_v16, val_main_v17, val_main_v18, val_main_v19, val_main_v20, val_main_v21, val_main_v22]
  have key : ∀ (p p' : Fin 136) (q q' : Fin 64), (p : ℕ) = p' → (q : ℕ) = q' →
      val_main_v3 (F := Ideal) x2 (ix5 b p q h d) = val_main_v3 (F := Ideal) x2 (ix5 b p' q' h d) := by
    intro p p' q q' e e'
    rw [Fin.ext e, Fin.ext e']
  repeat' split
  all_goals exact key _ _ _ _ (by simp only; omega) (by simp only; omega)

/-- The keys of a chunk's band, where the band lies inside the sequence. -/
theorem k_at (b : Fin 4) (n : Fin 128) (j : Fin 576) (h : Fin 8) (d : Fin 64) (hn : 8 ≤ (n : ℕ) + j / 64) :
    val_main_v13 (F := Ideal) x1 (ix5 b n j h d)
      = x1 (ix2 ⟨b * 8192 + (n * 64 + j - 512), by omega⟩ ⟨64 * h + d, by omega⟩) := by
  rw [cat1_at, pad1_at x1 _ _ _ _ _ hn]
  exact congrArg (fun p => x1 (ix2 p _)) (Fin.ext (by simp only; omega))

/-- The values of a chunk's band, where the band lies inside the sequence. -/
theorem v_at (b : Fin 4) (n : Fin 128) (j : Fin 576) (h : Fin 8) (d : Fin 64) (hn : 8 ≤ (n : ℕ) + j / 64) :
    val_main_v23 (F := Ideal) x2 (ix5 b n j h d)
      = x2 (ix2 ⟨b * 8192 + (n * 64 + j - 512), by omega⟩ ⟨64 * h + d, by omega⟩) := by
  rw [cat2_at, pad2_at x2 _ _ _ _ _ hn]
  exact congrArg (fun p => x2 (ix2 p _)) (Fin.ext (by simp only; omega))

theorem q_at (b : Fin 4) (n : Fin 128) (r : Fin 64) (h : Fin 8) (d : Fin 64) :
    val_main_v53 (F := Ideal) x0 (ix5 b n r h d) = x0 (ix2 ⟨b * 8192 + n * 64 + r, by omega⟩ ⟨64 * h + d, by omega⟩) := by
  pointwise [val_main_v53]
  exact congrArg₂ (fun p q => x0 (ix2 p q)) (Fin.ext (by simp only <;> omega)) (Fin.ext (by simp only <;> omega))

theorem neg_inf : Ideal.ofBits .f32 0xFF800000#32 = ⊥ := by
  simp [Ideal.ofBits, Ideal.ieee]

theorem eighth : Ideal.ofBits .f32 0x3E000000#32 = ((1 / 8 : ℝ) : EReal) := by
  simp [Ideal.ofBits, Ideal.ieee]
  rw [← EReal.coe_mul]
  norm_num

theorem max_at (b : Fin 4) (n : Fin 128) (h : Fin 8) (r : Fin 64) :
    val_main_v62 (F := Ideal) x0 x1 x3 (ix4 b n h r)
      = Finset.univ.fold max ⊥ fun j : Fin 576 => val_main_v61 (F := Ideal) x0 x1 x3 (ix5 b n h r j) := by
  unfold val_main_v62
  generalize val_main_v61 (F := Ideal) x0 x1 x3 = T
  rw [Host.reduce_eq_fold_single (FloatOps.maximumf (F := Ideal) (φ := .f32)) T _
    reducesTo_S4x128x8x64x576_S4x128x8x64_d4 (by decide) h_S_]
  show Finset.fold max (Ideal.ofBits .f32 0xFF800000#32) _ _ = _
  rw [neg_inf]
  refine Finset.fold_congr fun j _ => ?_
  refine congrArg T ?_
  funext a
  match a with
  | ⟨0, _⟩ => rfl
  | ⟨1, _⟩ => rfl
  | ⟨2, _⟩ => rfl
  | ⟨3, _⟩ => rfl
  | ⟨4, _⟩ => rfl

theorem chunk_at (j : Fin 576) : val_main_v47 (F := Ideal) (ix2 (0 : Fin 1) j) = BitVec.ofNat 32 ((j : ℕ) / 64) := by
  pointwise [val_main_v47, val_main_call3_v11, val_main_call3_v13, val_main_call3_v2, val_main_call3_v6, val_main_call3_v10,
    val_main_call3_v3, val_main_call3_v5, val_main_call3_v4, val_main_call3_v8, val_main_call3_v9, val_main_call3_v7, val_main_call3_v1,
    val_main_call3_v0, val_main_call3_v12, val_main_call3_c, val_main_call3_c_0, val_main_c_7, val_main_v46, val_main_v25]
  revert j
  decide +kernel

theorem valid_dec : ∀ (n : Fin 128) (p : Fin 9), IntOp.cmpi .sge (IntOp.addi (BitVec.ofNat 32 (n : ℕ)) (BitVec.ofNat 32 (p : ℕ))) 8#32
    = if 8 ≤ (n : ℕ) + p then 1#1 else 0#1 := by decide +kernel

theorem valid_at (b : Fin 4) (n : Fin 128) (h : Fin 8) (r : Fin 64) (j : Fin 576) :
    val_main_call4_v1 (F := Ideal) (ix5 b n h r j) = if 8 ≤ (n : ℕ) + j / 64 then 1#1 else 0#1 := by
  pointwise [val_main_call4_v1, val_main_v57, val_main_v52, val_main_v50, val_main_v48, val_main_v49, val_main_v45, val_main_v44, val_main_v51, val_main_c_8]
  rw [chunk_at]
  exact valid_dec n ⟨j / 64, by omega⟩

theorem dist_at (r : Fin 64) (j : Fin 576) :
    val_main_v41 (F := Ideal) (ix2 r j) = BitVec.ofNat 32 (min (640 + (r : ℕ) - j) 256) := by
  pointwise [val_main_v41, val_main_v40, val_main_v39, val_main_v38, val_main_v37, val_main_v36, val_main_v35, val_main_v34,
    val_main_call2_v4, val_main_call2_v3, val_main_call2_v2, val_main_call2_v1, val_main_call2_v0, val_main_c_2, val_main_c_3, val_main_c_4,
    val_main_c_5, val_main_c_6, val_main_v32, val_main_v31, val_main_v30, val_main_v29, val_main_v28, val_main_v27, val_main_v26, val_main_v25,
    val_main_v24, val_main_c_1]
  revert r j
  decide +kernel

/-- The columns of the operand that the indices name, clamped to its extent. -/
theorem gather_at (x : S8x257.Idx → EReal) (idx : IVec S64x576x1 32) (h : Fin 8) (r : Fin 64) (j : Fin 576) :
    Host.gather gather_S8x257_S64x576x1_S8x64x576_0_1_n_n_1_2_81 x idx (ix3 h r j)
      = x (ix2 h ⟨min (idx (ix3 r j (0 : Fin 1))).toInt.toNat 256, by omega⟩) := by
  unfold Host.gather
  congr 1
  funext a
  refine Fin.ext ?_
  set D := gather_S8x257_S64x576x1_S8x64x576_0_1_n_n_1_2_81 with hD
  show D.start (ix3 h r j) idx a + D.batchCoord (ix3 h r j) a + D.offCoord (ix3 h r j) a = _
  rw [GatherDims.batchCoord_eq_zero _ _ _ (fun h => by simp [hD, gather_S8x257_S64x576x1_S8x64x576_0_1_n_n_1_2_81] at h)]
  match a with
  | ⟨0, _⟩ =>
    have h1 : D.start (ix3 h r j) idx ⟨0, by decide⟩ = 0 := by
      unfold GatherDims.start
      rw [dif_neg (by simp [hD, gather_S8x257_S64x576x1_S8x64x576_0_1_n_n_1_2_81])]
    have h2 : D.offCoord (ix3 h r j) ⟨0, by decide⟩ = h := by
      unfold GatherDims.offCoord
      rw [dif_pos ((GatherDims.mem_sKept _ _).mpr (by simp [hD, gather_S8x257_S64x576x1_S8x64x576_0_1_n_n_1_2_81]))]
      rfl
    show D.start (ix3 h r j) idx ⟨0, by decide⟩ + 0 + D.offCoord (ix3 h r j) ⟨0, by decide⟩ = h
    rw [h1, h2]; omega
  | ⟨1, _⟩ =>
    have h2 : D.offCoord (ix3 h r j) ⟨1, by decide⟩ = 0 :=
      GatherDims.offCoord_eq_zero _ _ _ (fun h => ((GatherDims.mem_sKept _ _).mp h).1 (List.mem_singleton.mpr rfl))
    have h1 : D.start (ix3 h r j) idx ⟨1, by decide⟩ = min (idx (ix3 r j (0 : Fin 1))).toInt.toNat 256 := by
      unfold GatherDims.start
      rw [dif_pos (show (⟨1, by decide⟩ : Fin 2) ∈ D.startIndexMap from List.mem_singleton.mpr rfl)]
      have hsi : D.siIdx (ix3 h r j) ⟨List.idxOf (⟨1, by decide⟩ : Fin 2) D.startIndexMap,
          List.idxOf_lt_length_iff.2 (List.mem_singleton.mpr rfl)⟩ = ix3 r j (0 : Fin 1) := by
        funext b; refine Fin.ext ?_
        match b with
        | ⟨0, _⟩ => rfl
        | ⟨1, _⟩ => rfl
        | ⟨2, _⟩ => rfl
      rw [hsi]
      rfl
    show D.start (ix3 h r j) idx ⟨1, by decide⟩ + 0 + D.offCoord (ix3 h r j) ⟨1, by decide⟩ = min (idx (ix3 r j (0 : Fin 1))).toInt.toNat 256
    rw [h1, h2]
    rfl

theorem toNat_dec : ∀ u : Fin 257, (BitVec.ofNat 32 (u : ℕ)).toInt.toNat = u := by decide +kernel

theorem bias_at (h : Fin 8) (r : Fin 64) (j : Fin 576) :
    val_main_v43 (F := Ideal) x3 (ix3 h r j) = x3 (ix3 (0 : Fin 1) h ⟨min (640 + r - j) 256, by omega⟩) := by
  unfold val_main_v43
  rw [gather_at]
  have e1 : ∀ u : Fin 257, val_main_v33 (F := Ideal) x3 (ix2 h u) = x3 (ix3 (0 : Fin 1) h u) := fun u => by
    pointwise [val_main_v33]
  have e2 : val_main_v42 (F := Ideal) (ix3 r j (0 : Fin 1)) = val_main_v41 (F := Ideal) (ix2 r j) := by
    unfold val_main_v42
    generalize val_main_v41 (F := Ideal) = y
    pointwise
  rw [e1]
  refine congrArg (fun u => x3 (ix3 (0 : Fin 1) h u)) (Fin.ext ?_)
  show min (val_main_v42 (F := Ideal) (ix3 r j (0 : Fin 1))).toInt.toNat 256 = min (640 + (r : ℕ) - j) 256
  rw [e2, dist_at, toNat_dec ⟨min (640 + (r : ℕ) - j) 256, by omega⟩]
  exact Nat.min_eq_left (Nat.min_le_right _ _)

/-- The score of a query row against a key of its band. -/
theorem score_at (b : Fin 4) (n : Fin 128) (h : Fin 8) (r : Fin 64) (j : Fin 576) :
    val_main_v61 (F := Ideal) x0 x1 x3 (ix5 b n h r j)
      = if 8 ≤ (n : ℕ) + j / 64 then
          (∑ d : Fin 64, x0 (ix2 ⟨b * 8192 + n * 64 + r, by omega⟩ ⟨64 * h + d, by omega⟩)
              * x1 (ix2 ⟨b * 8192 + (n * 64 + j - 512), by omega⟩ ⟨64 * h + d, by omega⟩)) * ((1 / 8 : ℝ) : EReal)
            + x3 (ix3 (0 : Fin 1) h ⟨min (640 + r - j) 256, by omega⟩)
        else ⊥ := by
  rw [val_main_v61_apply, valid_at]
  split
  case isTrue hn =>
    rw [val_main_v60_apply, val_main_v56_apply, val_main_v54_apply]
    have e1 : ∀ k : Fin 64, lidx_main_v54 (ix5 b n h r j) k = ix5 b n r h k := fun k => by
      funext a
      match a with
      | ⟨0, _⟩ => rfl
      | ⟨1, _⟩ => rfl
      | ⟨2, _⟩ => rfl
      | ⟨3, _⟩ => rfl
      | ⟨4, _⟩ => rfl
    have e2 : ∀ k : Fin 64, ridx_main_v54 (ix5 b n h r j) k = ix5 b n j h k := fun k => by
      funext a
      match a with
      | ⟨0, _⟩ => rfl
      | ⟨1, _⟩ => rfl
      | ⟨2, _⟩ => rfl
      | ⟨3, _⟩ => rfl
      | ⟨4, _⟩ => rfl
    have e3 : val_main_v59 (F := Ideal) x3 (ix5 b n h r j) = val_main_v43 (F := Ideal) x3 (ix3 h r j) := by
      pointwise [val_main_v59, val_main_v58]
    have e4 : val_main_v55 (F := Ideal) (ix5 b n h r j) = ((1 / 8 : ℝ) : EReal) := eighth
    rw [e3, e4, bias_at]
    simp only [e1, e2, q_at, k_at x1 _ _ _ _ _ hn]
    rfl
  case isFalse hn => exact neg_inf

theorem lidx_at (b : Fin 4) (n : Fin 128) (h : Fin 8) (d r : Fin 64) (k : Fin 576) :
    lidx_main_v73 (ix5 b n h d r) k = ix5 b n k h d := by
  funext a
  match a with
  | ⟨0, _⟩ => rfl
  | ⟨1, _⟩ => rfl
  | ⟨2, _⟩ => rfl
  | ⟨3, _⟩ => rfl
  | ⟨4, _⟩ => rfl

theorem ridx_at (b : Fin 4) (n : Fin 128) (h : Fin 8) (d r : Fin 64) (k : Fin 576) :
    ridx_main_v73 (ix5 b n h d r) k = ix5 b n h r k := by
  funext a
  match a with
  | ⟨0, _⟩ => rfl
  | ⟨1, _⟩ => rfl
  | ⟨2, _⟩ => rfl
  | ⟨3, _⟩ => rfl
  | ⟨4, _⟩ => rfl

theorem exp_at (b : Fin 4) (n : Fin 128) (h : Fin 8) (r : Fin 64) (j : Fin 576) :
    val_main_v68 (F := Ideal) x0 x1 x3 (ix5 b n h r j)
      = Ideal.exp (val_main_v61 (F := Ideal) x0 x1 x3 (ix5 b n h r j)
          - max ⊥ (Finset.univ.fold max ⊥ fun i : Fin 576 => val_main_v61 (F := Ideal) x0 x1 x3 (ix5 b n h r i))) := by
  have e1 : val_main_v66 (F := Ideal) x0 x1 x3 (ix5 b n h r j) = val_main_v64 (F := Ideal) x0 x1 x3 (ix4 b n h r) := by
    unfold val_main_v66 val_main_v65
    generalize val_main_v64 (F := Ideal) x0 x1 x3 = y
    pointwise
  have e2 : val_main_v63 (F := Ideal) (ix4 b n h r) = ⊥ := neg_inf
  rw [← max_at, ← e2]
  rw [val_main_v68_apply, val_main_v67_apply, e1, val_main_v64_apply]
  rfl

theorem sum_at (b : Fin 4) (n : Fin 128) (h : Fin 8) (r : Fin 64) :
    val_main_v69 (F := Ideal) x0 x1 x3 (ix4 b n h r) = 0 + ∑ i : Fin 576, val_main_v68 (F := Ideal) x0 x1 x3 (ix5 b n h r i) := by
  have e1 : ∀ k : Fin 576, idx_main_v69 (ix4 b n h r) k = ix5 b n h r k := fun k => by
    funext a
    match a with
    | ⟨0, _⟩ => rfl
    | ⟨1, _⟩ => rfl
    | ⟨2, _⟩ => rfl
    | ⟨3, _⟩ => rfl
    | ⟨4, _⟩ => rfl
  have e2 : val_main_cst_12 (F := Ideal) (Shape.Idx.first h_S_) = 0 := by
    show Ideal.ofBits .f32 0x00000000#32 = 0
    simp [Ideal.ofBits, Ideal.ieee]
  rw [val_main_v69_apply, e2]
  simp only [e1]

/-- The softmax of a query row's scores over its band. -/
theorem prob_at (b : Fin 4) (n : Fin 128) (h : Fin 8) (r : Fin 64) (j : Fin 576) :
    val_main_v72 (F := Ideal) x0 x1 x3 (ix5 b n h r j)
      = Ideal.div (Ideal.exp (val_main_v61 (F := Ideal) x0 x1 x3 (ix5 b n h r j)
            - max ⊥ (Finset.univ.fold max ⊥ fun i : Fin 576 => val_main_v61 (F := Ideal) x0 x1 x3 (ix5 b n h r i))))
          (0 + ∑ i' : Fin 576, Ideal.exp (val_main_v61 (F := Ideal) x0 x1 x3 (ix5 b n h r i')
            - max ⊥ (Finset.univ.fold max ⊥ fun i : Fin 576 => val_main_v61 (F := Ideal) x0 x1 x3 (ix5 b n h r i)))) := by
  have e1 : val_main_v71 (F := Ideal) x0 x1 x3 (ix5 b n h r j) = val_main_v69 (F := Ideal) x0 x1 x3 (ix4 b n h r) := by
    unfold val_main_v71 val_main_v70
    generalize val_main_v69 (F := Ideal) x0 x1 x3 = y
    pointwise
  rw [val_main_v72_apply, e1, sum_at]
  simp only [exp_at]
  rfl

/-- The reference's output at a query row and a lane: the band's values averaged with the softmax of its scores. -/
theorem ref_at (R : Fin 32768) (l : Fin 512) :
    val_main_v76 (F := Ideal) x0 x1 x2 x3 (ix2 R l)
      = ∑ j : Fin 576, val_main_v23 (F := Ideal) x2 (ix5 ⟨R / 8192, by omega⟩ ⟨R / 64 % 128, by omega⟩ j ⟨l / 64, by omega⟩ ⟨l % 64, by omega⟩)
        * Ideal.div (Ideal.exp (val_main_v61 (F := Ideal) x0 x1 x3 (ix5 ⟨R / 8192, by omega⟩ ⟨R / 64 % 128, by omega⟩ ⟨l / 64, by omega⟩ ⟨R % 64, by omega⟩ j)
            - max ⊥ (Finset.univ.fold max ⊥ fun i : Fin 576 =>
                val_main_v61 (F := Ideal) x0 x1 x3 (ix5 ⟨R / 8192, by omega⟩ ⟨R / 64 % 128, by omega⟩ ⟨l / 64, by omega⟩ ⟨R % 64, by omega⟩ i))))
          (0 + ∑ i' : Fin 576, Ideal.exp (val_main_v61 (F := Ideal) x0 x1 x3 (ix5 ⟨R / 8192, by omega⟩ ⟨R / 64 % 128, by omega⟩ ⟨l / 64, by omega⟩ ⟨R % 64, by omega⟩ i')
            - max ⊥ (Finset.univ.fold max ⊥ fun i : Fin 576 =>
                val_main_v61 (F := Ideal) x0 x1 x3 (ix5 ⟨R / 8192, by omega⟩ ⟨R / 64 % 128, by omega⟩ ⟨l / 64, by omega⟩ ⟨R % 64, by omega⟩ i)))) := by
  have e0 : val_main_v76 (F := Ideal) x0 x1 x2 x3 (ix2 R l) = val_main_v73 (F := Ideal) x0 x1 x2 x3
      (ix5 ⟨R / 8192, by omega⟩ ⟨R / 64 % 128, by omega⟩ ⟨l / 64, by omega⟩ ⟨l % 64, by omega⟩ ⟨R % 64, by omega⟩) := by
    unfold val_main_v76 val_main_v75 val_main_v74
    generalize val_main_v73 (F := Ideal) x0 x1 x2 x3 = y
    pointwise
  rw [e0, val_main_v73_apply]
  refine Finset.sum_congr rfl fun j _ => ?_
  exact congrArg₂ (· * ·) (congrArg _ (lidx_at _ _ _ _ _ _)) ((congrArg _ (ridx_at _ _ _ _ _ _)).trans (prob_at x0 x1 x3 _ _ _ _ _))

end Cert.BandRefIdeal.RefAt

end
-- ==== Proof.Soft.lean ====
/- The softmax identity between the window form (base two, divided after the weighted sum) and the plain form. -/
module

public import Idealize.ShloMosaic.PureOps.Ideal
public import Idealize.ShloMosaic.PureOps.Ideal.Laws

@[expose] public section

noncomputable section

namespace Cert.Soft

open Idealize.ShloMosaic

/-- A nonnegative real factor goes into a finite sum of extended reals. -/
theorem sum_mul_real {B : Type} (s : Finset B) (f : B → EReal) (c : ℝ) (hc : 0 ≤ c) :
    (∑ j ∈ s, f j) * (c : EReal) = ∑ j ∈ s, f j * (c : EReal) := by
  classical
  have hc' : (0 : EReal) ≤ (c : EReal) := by exact_mod_cast hc
  induction s using Finset.induction_on with
  | empty => simp
  | insert a t ha ih =>
    rw [Finset.sum_insert ha, Finset.sum_insert ha, mul_comm,
      EReal.left_distrib_of_nonneg_of_ne_top hc' (EReal.coe_ne_top c), mul_comm, ← ih, mul_comm (∑ x ∈ t, f x)]

/-- A finite sum of reals read as extended reals. -/
theorem coe_sum {B : Type} (s : Finset B) (f : B → ℝ) : ((∑ j ∈ s, f j : ℝ) : EReal) = ∑ j ∈ s, (f j : EReal) := by
  classical
  induction s using Finset.induction_on with
  | empty => simp
  | insert a t ha ih => rw [Finset.sum_insert ha, Finset.sum_insert ha, EReal.coe_add, ih]

/-- Two to the power `x / ln 2` is the exponential of `x`. -/
theorem rpow_two (x : ℝ) : Real.rpow 2 (x * (Real.log 2)⁻¹) = Real.exp x := by
  have h2 : (0 : ℝ) < 2 := by norm_num
  have hl : Real.log 2 ≠ 0 := (Real.log_pos (by norm_num)).ne'
  show (2 : ℝ) ^ (x * (Real.log 2)⁻¹) = Real.exp x
  rw [Real.rpow_def_of_pos h2]
  congr 1
  field_simp

/-- The weighted average over a window `A` whose scores are in base two, with every key outside the band (`e`'s range)
    and every key not `ok` at minus infinity, is the softmax-weighted sum over the band `B`. -/
theorem window {A B : Type} [Fintype A] [Fintype B] (e : B → A) (he : Function.Injective e)
    (ok : B → Prop) [DecidablePred ok] (s : B → ℝ) (j0 : B) (h0 : ok j0)
    (S : A → EReal) (hS : ∀ j, S (e j) = if ok j then ((s j * (Real.log 2)⁻¹ : ℝ) : EReal) else ⊥)
    (hS' : ∀ w, (∀ j, e j ≠ w) → S w = ⊥)
    (T : B → EReal) (hT : ∀ j, T j = if ok j then (s j : EReal) else ⊥)
    (V : A → EReal) (v : B → EReal) (hv : ∀ j, ok j → V (e j) = v j) :
    Ideal.div (∑ w, V w * Ideal.exp2 (S w - Finset.univ.fold max ⊥ S)) (∑ w, Ideal.exp2 (S w - Finset.univ.fold max ⊥ S))
      = ∑ j, v j * Ideal.div (Ideal.exp (T j - max ⊥ (Finset.univ.fold max ⊥ T)))
          (0 + ∑ i, Ideal.exp (T i - max ⊥ (Finset.univ.fold max ⊥ T))) := by
  have hlog : 0 < (Real.log 2)⁻¹ := inv_pos.mpr (Real.log_pos (by norm_num))
  -- the maximum is a real score of the band
  obtain ⟨i0, -, hi0⟩ := Finset.exists_mem_eq_sup (Finset.univ : Finset B) ⟨j0, Finset.mem_univ _⟩ T
  have hok : ok i0 := by
    by_contra hn
    have h1 : T j0 ≤ T i0 := hi0 ▸ Finset.le_sup (Finset.mem_univ j0)
    rw [hT i0, if_neg hn, hT j0, if_pos h0] at h1
    exact absurd (le_bot_iff.mp h1) (EReal.coe_ne_bot _)
  have hTi : T i0 = (s i0 : EReal) := by rw [hT, if_pos hok]
  have hmT : Finset.univ.fold max ⊥ T = (s i0 : EReal) := (show _ = Finset.univ.sup T from rfl).trans (hi0.trans hTi)
  have hle : ∀ j, ok j → s j ≤ s i0 := fun j hj => by
    have h1 : T j ≤ T i0 := hi0 ▸ Finset.le_sup (Finset.mem_univ j)
    rw [hTi, hT j, if_pos hj] at h1
    exact_mod_cast h1
  have hmS : Finset.univ.fold max ⊥ S = ((s i0 * (Real.log 2)⁻¹ : ℝ) : EReal) := by
    refine (show _ = Finset.univ.sup S from rfl).trans (le_antisymm (Finset.sup_le fun w _ => ?_) ?_)
    · by_cases hw : ∃ j, e j = w
      · obtain ⟨j, rfl⟩ := hw
        rw [hS]
        split_ifs with hj
        · exact_mod_cast mul_le_mul_of_nonneg_right (hle j hj) hlog.le
        · exact bot_le
      · rw [hS' w fun j hj => hw ⟨j, hj⟩]
        exact bot_le
    · have := Finset.le_sup (f := S) (Finset.mem_univ (e i0))
      rwa [hS, if_pos hok] at this
  rw [hmT, hmS, max_eq_right bot_le, zero_add]
  -- the weights
  let E : B → ℝ := fun j => if ok j then Real.exp (s j - s i0) else 0
  have hE : ∀ j, Ideal.exp (T j - (s i0 : EReal)) = (E j : EReal) := fun j => by
    rw [hT]
    by_cases hj : ok j
    · simp only [E, if_pos hj]
      rw [← EReal.coe_sub, Ideal.exp_coe]
    · simp only [E, if_neg hj]
      rw [EReal.bot_sub, Ideal.exp_bot, EReal.coe_zero]
  have hF : ∀ j, Ideal.exp2 (S (e j) - ((s i0 * (Real.log 2)⁻¹ : ℝ) : EReal)) = (E j : EReal) := fun j => by
    rw [hS]
    by_cases hj : ok j
    · simp only [E, if_pos hj]
      rw [← EReal.coe_sub, Ideal.exp2_coe, ← sub_mul, rpow_two]
    · simp only [E, if_neg hj]
      rw [EReal.bot_sub, Ideal.exp2_bot, EReal.coe_zero]
  have hF' : ∀ w, w ∉ Set.range e → Ideal.exp2 (S w - ((s i0 * (Real.log 2)⁻¹ : ℝ) : EReal)) = 0 := fun w hw => by
    rw [hS' w fun j hj => hw ⟨j, hj⟩, EReal.bot_sub, Ideal.exp2_bot]
  have hsum : ∑ w, Ideal.exp2 (S w - ((s i0 * (Real.log 2)⁻¹ : ℝ) : EReal)) = ((∑ j, E j : ℝ) : EReal) := by
    rw [coe_sum]
    exact (Fintype.sum_of_injective e he _ _ hF' fun j => (hF j).symm).symm
  have hwsum : ∑ w, V w * Ideal.exp2 (S w - ((s i0 * (Real.log 2)⁻¹ : ℝ) : EReal)) = ∑ j, v j * (E j : EReal) := by
    refine (Fintype.sum_of_injective e he _ _ (fun w hw => by rw [hF' w hw, mul_zero]) fun j => ?_).symm
    rw [hF]
    by_cases hj : ok j
    · rw [hv j hj]
    · simp only [E, if_neg hj, EReal.coe_zero, mul_zero]
  have hE0 : ∀ j, 0 ≤ E j := fun j => by
    by_cases hj : ok j
    · simp only [E, if_pos hj]; exact (Real.exp_pos _).le
    · simp only [E, if_neg hj]; exact le_refl _
  have hpos : 0 < ∑ j, E j := by
    refine Finset.sum_pos' (fun j _ => hE0 j) ⟨j0, Finset.mem_univ _, ?_⟩
    simp only [E, if_pos h0]; exact Real.exp_pos _
  rw [hsum, hwsum, Ideal.div_coe hpos.ne', sum_mul_real _ _ _ (by positivity)]
  simp only [hE]
  rw [← coe_sum]
  exact Finset.sum_congr rfl fun j _ => by rw [Ideal.div_coe hpos.ne', mul_assoc]

end Cert.Soft

end
-- ==== Proof.Link.lean ====
module

public import proofs.«01_k».proof.Proof.Gen.BandIdeal.Value
public import Idealize.ShloMosaic.Lib.Pipeline.ValueKit
public import Idealize.ShloMosaic.Lib.Pipeline.ReadBack
public import Idealize.ShloMosaic.Lib.Pointwise
public import proofs.«01_k».proof.Proof.Entry
public import proofs.«01_k».proof.Proof.RefAt
public import proofs.«01_k».proof.Proof.Soft

@[expose] public section

set_option maxRecDepth 16384

noncomputable section

open Idealize.ShloMosaic Idealize.ShloMosaic.TcCoe Idealize.SL.Sem
open Idealize.ShloMosaic.Pipeline (Dat)

namespace Cert.BandIdeal.Link

open Cert.BandIdeal Cert.BandIdeal.Gen Cert.BandIdeal.Point Cert.BandIdeal.Head Cert.BandIdeal.Score

variable (m : (ℓ : Loc nD τ sig) → Buf (Elt Ideal) ℓ)

/-- The real score of a query row against a key of its band. -/
def real (q k : S32768x512.Idx → ℝ) (bias : S1x8x257.Idx → ℝ) (R : Fin 32768) (h : Fin 8) (j : Fin 576) : ℝ :=
  (∑ d : Fin 64, q (ix2 R ⟨64 * h + d, by omega⟩)
      * k (ix2 ⟨(R : ℕ) / 8192 * 8192 + ((R : ℕ) / 64 % 128 * 64 + j - 512), by omega⟩ ⟨64 * h + d, by omega⟩)) * (1 / 8)
    + bias (ix3 (0 : Fin 1) h ⟨min (640 + (R : ℕ) % 64 - j) 256, by omega⟩)

theorem log_pos : (0 : ℝ) < (Real.log 2)⁻¹ := inv_pos.mpr (Real.log_pos (by norm_num))

/-- The score at a window row that lies inside the sequence. -/
theorem sc_at (q k : S32768x512.Idx → ℝ) (c : Dev nD)
    (hq : m ((c : Thread nD τ).loc main_arg0) = fun i => (q i : EReal)) (hk : m ((c : Thread nD τ).loc main_arg1) = fun i => (k i : EReal))
    (R : Fin 32768) (h : Fin 8) (w : Fin 768) (hw : 512 ≤ (w : ℕ) + 256 * ((R : ℕ) / 256 % 32)) :
    sc m c R h w = (((∑ d : Fin 64, k (ix2 ⟨(R : ℕ) / 8192 * 8192 + ((R : ℕ) / 256 % 32 * 256 + w - 512), by omega⟩ ⟨64 * h + d, by omega⟩)
        * (q (ix2 R ⟨64 * h + d, by omega⟩) * ((1 / 8) * (Real.log 2)⁻¹)) : ℝ)) : EReal)
      + Entry.bv (m ((c : Thread nD τ).loc main_arg3)) (ix3 h w ⟨(R : ℕ) % 256, by omega⟩) * cL := by
  have eq : qArr m c = fun i => (q i : EReal) := (Entry.q_eq m c).trans hq
  have ek : kArr m c = Entry.padv (fun i => (k i : EReal)) := (Entry.k_eq m c).trans (congrArg Entry.padv hk)
  have eb : bArr m c = Entry.bv (m ((c : Thread nD τ).loc main_arg3)) := Entry.b_eq m c
  unfold sc
  rw [if_pos hw, eq, ek, eb, Soft.coe_sum]
  refine congrArg (· + _) (Finset.sum_congr rfl fun d _ => ?_)
  rw [Entry.pad_at _ _ _ _ (by simp only; omega)]
  rw [EReal.coe_mul, EReal.coe_mul]
  rfl

/-- A band position of a query row, as a row of its tile's window. -/
def pos (R : Fin 32768) (j : Fin 576) : Fin 768 := ⟨64 * ((R : ℕ) / 64 % 4) + j, by omega⟩

theorem pos_inj (R : Fin 32768) : Function.Injective (pos R) := fun a b h => by
  have h' := congrArg Fin.val h
  simp only [pos] at h'
  exact Fin.ext (by omega)

/-- The score at a row of the band. -/
theorem sc_in (q k : S32768x512.Idx → ℝ) (bias : S1x8x257.Idx → ℝ) (c : Dev nD)
    (hq : m ((c : Thread nD τ).loc main_arg0) = fun i => (q i : EReal)) (hk : m ((c : Thread nD τ).loc main_arg1) = fun i => (k i : EReal))
    (hb : m ((c : Thread nD τ).loc main_arg3) = fun i => (bias i : EReal))
    (R : Fin 32768) (h : Fin 8) (j : Fin 576) :
    sc m c R h (pos R j) = if 8 ≤ (R : ℕ) / 64 % 128 + j / 64 then ((real q k bias R h j * (Real.log 2)⁻¹ : ℝ) : EReal) else ⊥ := by
  by_cases hw : 8 ≤ (R : ℕ) / 64 % 128 + (j : ℕ) / 64
  · rw [if_pos hw, sc_at m q k c hq hk R h (pos R j) (by simp only [pos]; omega), hb, Entry.b_at,
      if_pos (by simp only [pos]; omega)]
    unfold cL
    rw [← EReal.coe_mul, ← EReal.coe_add]
    refine congrArg _ ?_
    unfold real
    rw [add_mul, Finset.sum_mul, Finset.sum_mul]
    refine congrArg₂ (· + ·) (Finset.sum_congr rfl fun d _ => ?_) ?_
    · rw [show (⟨(R : ℕ) / 8192 * 8192 + ((R : ℕ) / 256 % 32 * 256 + (pos R j : ℕ) - 512), by simp only [pos]; omega⟩ : Fin 32768)
        = ⟨(R : ℕ) / 8192 * 8192 + ((R : ℕ) / 64 % 128 * 64 + j - 512), by omega⟩ from Fin.ext (by simp only [pos]; omega)]
      ring
    · refine congrArg (· * _) (congrArg (fun u => bias (ix3 (0 : Fin 1) h u)) (Fin.ext ?_))
      simp only [pos]
      omega
  · rw [if_neg hw]
    unfold sc
    rw [if_neg (by simp only [pos]; omega)]

/-- The score at a row of the window outside the band. -/
theorem sc_out (q k : S32768x512.Idx → ℝ) (c : Dev nD)
    (hq : m ((c : Thread nD τ).loc main_arg0) = fun i => (q i : EReal)) (hk : m ((c : Thread nD τ).loc main_arg1) = fun i => (k i : EReal))
    (R : Fin 32768) (h : Fin 8) (w : Fin 768) (hw : ∀ j, pos R j ≠ w) : sc m c R h w = ⊥ := by
  by_cases hv : 512 ≤ (w : ℕ) + 256 * ((R : ℕ) / 256 % 32)
  · rw [sc_at m q k c hq hk R h w hv, Entry.b_at, if_neg]
    · unfold cL
      rw [EReal.bot_mul_coe_of_pos log_pos, EReal.add_bot]
    · intro hc
      simp only at hc
      exact hw ⟨w - 64 * ((R : ℕ) / 64 % 4), by omega⟩ (Fin.ext (by simp only [pos]; omega))
  · unfold sc
    rw [if_neg hv]

/-- The value at a row of the band inside the sequence. -/
theorem vl_in (c : Dev nD) (R : Fin 32768) (l : Fin 512) (j : Fin 576) (hw : 8 ≤ (R : ℕ) / 64 % 128 + (j : ℕ) / 64) :
    vl m c R l (pos R j) = m ((c : Thread nD τ).loc main_arg2) (ix2 ⟨(R : ℕ) / 8192 * 8192 + ((R : ℕ) / 64 % 128 * 64 + j - 512), by omega⟩ l) := by
  have ev : vArr m c = Entry.vv (m ((c : Thread nD τ).loc main_arg2)) := Entry.v_eq m c
  unfold vl
  rw [ev, Entry.v_at _ _ _ _ _ (by simp only [pos]; omega)]
  exact congrArg (fun p => m ((c : Thread nD τ).loc main_arg2) (ix2 p l)) (Fin.ext (by simp only [pos]; omega))

/-- The kernel's result is the reference's, at finite queries, keys and biases. -/
theorem agree (q k : S32768x512.Idx → ℝ) (bias : S1x8x257.Idx → ℝ) (c : Dev nD)
    (hq : m ((c : Thread nD τ).loc main_arg0) = fun i => (q i : EReal)) (hk : m ((c : Thread nD τ).loc main_arg1) = fun i => (k i : EReal))
    (hb : m ((c : Thread nD τ).loc main_arg3) = fun i => (bias i : EReal)) (R : Fin 32768) (l : Fin 512) :
    G m c (ix2 R l) = BandRefIdeal.Read.val_main_v76 (F := Ideal) (fun i => (q i : EReal)) (fun i => (k i : EReal))
      (m ((c : Thread nD τ).loc main_arg2)) (fun i => (bias i : EReal)) (ix2 R l) := by
  rw [BandRefIdeal.RefAt.ref_at]
  refine Soft.window (pos R) (pos_inj R) (fun j => 8 ≤ (R : ℕ) / 64 % 128 + (j : ℕ) / 64) (real q k bias R ⟨l / 64, by omega⟩)
    ⟨512, by omega⟩ (by simp only; omega) (sc m c R ⟨l / 64, by omega⟩) (sc_in m q k bias c hq hk hb R _)
    (sc_out m q k c hq hk R _) _ (fun j => ?_) (vl m c R l) _ (fun j hj => ?_)
  · rw [BandRefIdeal.RefAt.score_at]
    refine if_congr Iff.rfl ?_ rfl
    unfold real
    rw [EReal.coe_add, EReal.coe_mul, Soft.coe_sum]
    refine congrArg₂ (· + ·) (congrArg (· * _) (Finset.sum_congr rfl fun d _ => ?_)) rfl
    rw [EReal.coe_mul]
    rw [show (⟨(R : ℕ) / 8192 * 8192 + (R : ℕ) / 64 % 128 * 64 + (R : ℕ) % 64, by omega⟩ : Fin 32768) = R from Fin.ext (by simp only; omega)]
  · rw [vl_in m c R l j hj, BandRefIdeal.RefAt.v_at _ _ _ _ _ _ hj]
    exact congrArg (fun p => m ((c : Thread nD τ).loc main_arg2) (ix2 _ p)) (Fin.ext (by simp only; omega))

/-- A finite extended real is a real. -/
theorem finite_of {x : EReal} (h : Ideal.cmp .olt (max x (-x)) (Ideal.ofBits .f32 0x7F800000#32) = 1#1) : ∃ r : ℝ, x = (r : EReal) := by
  have top : Ideal.ofBits .f32 0x7F800000#32 = ⊤ := by simp [Ideal.ofBits, Ideal.ieee]
  rw [top] at h
  induction x with
  | bot => simp [Ideal.cmp] at h
  | coe r => exact ⟨r, rfl⟩
  | top => simp [Ideal.cmp] at h

end Cert.BandIdeal.Link

end
-- ==== Proof.Mlp.lean ====
module

public import proofs.«01_k».proof.Proof.Gen.OutIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! One token's row through the output projection and the second feed-forward part. -/
namespace Cert.Mlp

/-- The token after the two attentions' outputs, projected, are added to it. -/
def mix (x : Fin 1024 → EReal) (a b : Fin 512 → EReal) (w : Fin 1024 → Fin 1024 → EReal) (l : Fin 1024) : EReal :=
  x l + (∑ k : Fin 512, a k * w ⟨k, by omega⟩ l) + ∑ k : Fin 512, b k * w ⟨512 + k, by omega⟩ l

/-- The row divided by its root mean square, times the gain. -/
def nrm (x g : Fin 1024 → EReal) (l : Fin 1024) : EReal :=
  x l * Ideal.rsqrt (Ideal.div (∑ k : Fin 1024, x k * x k) (Ideal.ofBits .f32 0x44800000#32) + Ideal.ofBits .f32 0x358637BD#32) * g l

/-- A hidden unit: the gated product of the two projections. -/
def hid (h : Fin 1024 → EReal) (wg wu : Fin 1024 → Fin 2816 → EReal) (f : Fin 2816) : EReal :=
  (∑ k : Fin 1024, h k * wg k f) * Ideal.logistic (∑ k : Fin 1024, h k * wg k f) * ∑ k : Fin 1024, h k * wu k f

/-- The row with half of the feed-forward part added. -/
def res (x : Fin 1024 → EReal) (h : Fin 2816 → EReal) (wd : Fin 2816 → Fin 1024 → EReal) (l : Fin 1024) : EReal :=
  x l + Ideal.ofBits .f32 0x3F000000#32 * ∑ f : Fin 2816, h f * wd f l

/-- The whole row. -/
def row (x : Fin 1024 → EReal) (a b : Fin 512 → EReal) (w : Fin 1024 → Fin 1024 → EReal) (g : Fin 1024 → EReal)
    (wg wu : Fin 1024 → Fin 2816 → EReal) (wd : Fin 2816 → Fin 1024 → EReal) (gf : Fin 1024 → EReal) : Fin 1024 → EReal :=
  nrm (res (mix x a b w) (hid (nrm (mix x a b w) g) wg wu) wd) gf

end Cert.Mlp

namespace Cert.OutIdeal.MlpAt

open Cert.OutIdeal Cert.OutIdeal.Gen Cert.Mlp

variable (v0 : FVec Ideal S256x1024 .f32) (v1 v6 : FVec Ideal S256x512 .bf16) (v2 v7 : FVec Ideal S512x1024 .bf16)
  (v11 v42 : FVec Ideal S1x1024 .f32) (v26 v29 : FVec Ideal S1024x2816 .bf16) (v36 : FVec Ideal S2816x1024 .bf16)

theorem pay2_at (r : Fin 256) (l : Fin 1024) :
    k0_pay2 (F := Ideal) v0 v1 v2 v6 v7 (ix2 r l)
      = v0 (ix2 r l) + (∑ k : Fin 512, v1 (ix2 r k) * v2 (ix2 k l)) + ∑ k : Fin 512, v6 (ix2 r k) * v7 (ix2 k l) := by
  pointwise [k0_pay2]

theorem pay3_at (r : Fin 256) (f : Fin 2816) :
    k0_pay3 (F := Ideal) v0 v1 v2 v6 v7 v11 v26 v29 (ix2 r f)
      = hid (nrm (fun l => k0_pay2 (F := Ideal) v0 v1 v2 v6 v7 (ix2 r l)) (fun l => v11 (ix2 (0 : Fin 1) l)))
          (fun k f => v26 (ix2 k f)) (fun k f => v29 (ix2 k f)) f := by
  unfold k0_pay3
  generalize k0_pay2 (F := Ideal) v0 v1 v2 v6 v7 = y
  pointwise
  unfold hid nrm
  rfl

theorem pay1_at (v10 : FVec Ideal S256x1024 .f32) (v35 : FVec Ideal S256x2816 .bf16) (r : Fin 256) (l : Fin 1024) :
    k0_pay1 (F := Ideal) v10 v35 v36 v42 (ix2 r l)
      = nrm (res (fun l => v10 (ix2 r l)) (fun f => v35 (ix2 r f)) (fun f l => v36 (ix2 f l))) (fun l => v42 (ix2 (0 : Fin 1) l)) l := by
  pointwise [k0_pay1]
  unfold nrm res
  rfl

end Cert.OutIdeal.MlpAt

end
-- ==== Proof.MlpPoint.lean ====
module

public import proofs.«01_k».proof.Proof.Mlp
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.OutIdeal.MlpPoint

open Cert.OutIdeal Cert.OutIdeal.Gen Cert.OutIdeal.MlpAt Cert.Mlp Idealize.ShloMosaic.StableHlo

variable (m : (ℓ : Loc nD τ sig) → Buf (Elt Ideal) ℓ)

/-- The arguments, by their entries. -/
def x0 (c : Dev nD) : S32768x1024.Idx → EReal := m ((c : Thread nD τ).loc main_arg0)
def x1 (c : Dev nD) : S32768x512.Idx → EReal := m ((c : Thread nD τ).loc main_arg1)
def x2 (c : Dev nD) : S32768x512.Idx → EReal := m ((c : Thread nD τ).loc main_arg2)
def x3 (c : Dev nD) : S1x1024x1024.Idx → EReal := m ((c : Thread nD τ).loc main_arg3)
def x4 (c : Dev nD) : S1x1024.Idx → EReal := m ((c : Thread nD τ).loc main_arg4)
def x5 (c : Dev nD) : S1x1024x2816.Idx → EReal := m ((c : Thread nD τ).loc main_arg5)
def x6 (c : Dev nD) : S1x1024x2816.Idx → EReal := m ((c : Thread nD τ).loc main_arg6)
def x7 (c : Dev nD) : S1x2816x1024.Idx → EReal := m ((c : Thread nD τ).loc main_arg7)
def x8 (c : Dev nD) : S1024.Idx → EReal := m ((c : Thread nD τ).loc main_arg8)

/-- What the call leaves: each token's row. -/
def G (c : Dev nD) (j : S32768x1024.Idx) : EReal :=
  row (fun l => x0 m c (ix2 (j 0) l)) (fun k => x1 m c (ix2 (j 0) k)) (fun k => x2 m c (ix2 (j 0) k)) (fun k l => x3 m c (ix3 (0 : Fin 1) k l))
    (fun l => x4 m c (ix2 (0 : Fin 1) l)) (fun k f => x5 m c (ix3 (0 : Fin 1) k f)) (fun k f => x6 m c (ix3 (0 : Fin 1) k f))
    (fun f l => x7 m c (ix3 (0 : Fin 1) f l)) (fun l => x8 m c (ix1 l)) (j 1)

/-- The weights as the kernel is handed them. -/
def wo (a : S1x1024x1024.Idx → EReal) : S1024x1024.Idx → EReal :=
  truncf (F := Ideal) (φ := .f32) .bf16 (shapeCast S1024x1024 a shapeCasts_S1x1024x1024_S1024x1024 : S1024x1024.Idx → EReal) bitsLt_bf16_f32
def wi (a : S1x1024x2816.Idx → EReal) : S1024x2816.Idx → EReal :=
  truncf (F := Ideal) (φ := .f32) .bf16 (shapeCast S1024x2816 a shapeCasts_S1x1024x2816_S1024x2816 : S1024x2816.Idx → EReal) bitsLt_bf16_f32
def wd (a : S1x2816x1024.Idx → EReal) : S2816x1024.Idx → EReal :=
  truncf (F := Ideal) (φ := .f32) .bf16 (shapeCast S2816x1024 a shapeCasts_S1x2816x1024_S2816x1024 : S2816x1024.Idx → EReal) bitsLt_bf16_f32
def gn (a : S1x1024.Idx → EReal) : S1x1024.Idx → EReal :=
  shapeCast S1x1024 (shapeCast S1024 a shapeCasts_S1x1024_S1024 : S1024.Idx → EReal) shapeCasts_S1024_S1x1024
def gl (a : S1024.Idx → EReal) : S1x1024.Idx → EReal := shapeCast S1x1024 a shapeCasts_S1024_S1x1024

theorem wo_at (a : S1x1024x1024.Idx → EReal) (k l : Fin 1024) : wo a (ix2 k l) = a (ix3 (0 : Fin 1) k l) := by
  pointwise [wo]
theorem wi_at (a : S1x1024x2816.Idx → EReal) (k : Fin 1024) (f : Fin 2816) : wi a (ix2 k f) = a (ix3 (0 : Fin 1) k f) := by
  pointwise [wi]
theorem wd_at (a : S1x2816x1024.Idx → EReal) (f : Fin 2816) (l : Fin 1024) : wd a (ix2 f l) = a (ix3 (0 : Fin 1) f l) := by
  pointwise [wd]
theorem gn_at (a : S1x1024.Idx → EReal) (l : Fin 1024) : gn a (ix2 (0 : Fin 1) l) = a (ix2 (0 : Fin 1) l) := by
  pointwise [gn]
theorem gl_at (a : S1024.Idx → EReal) (l : Fin 1024) : gl a (ix2 (0 : Fin 1) l) = a (ix1 l) := by
  pointwise [gl]

theorem v7_eq (c : Dev nD) : V m c main_v7 = wo (x3 m c) := by
  unfold V
  unfold hostOps0
  after_reads_simp
  unfold wo x3
  rfl

theorem v9_eq (c : Dev nD) : V m c main_v9 = gn (x4 m c) := by
  unfold V
  unfold hostOps0
  after_reads_simp
  unfold gn x4
  rfl

theorem v1_eq (c : Dev nD) : V m c main_v1 = wi (x5 m c) := by
  unfold V
  unfold hostOps0
  after_reads_simp
  unfold wi x5
  rfl

theorem v3_eq (c : Dev nD) : V m c main_v3 = wi (x6 m c) := by
  unfold V
  unfold hostOps0
  after_reads_simp
  unfold wi x6
  rfl

theorem v5_eq (c : Dev nD) : V m c main_v5 = wd (x7 m c) := by
  unfold V
  unfold hostOps0
  after_reads_simp
  unfold wd x7
  rfl

theorem v10_eq (c : Dev nD) : V m c main_v10 = gl (x8 m c) := by
  unfold V
  unfold hostOps0
  after_reads_simp
  unfold gl x8
  rfl

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ t.val < 128 :=
  (by decide +kernel : ∀ t : Fin grid0.N, _)

theorem em0 (t : Fin cfg0.N) (r : Fin 256) (l : Fin 1024) :
    ((cfg0.win 0).blk t).view.emb (ix2 r l : S256x1024.Idx) = (ix2 ⟨t.val * 256 + (r : ℕ), by have := (idx t).2.2.2.2.2.2.2.2.2.2; omega⟩ l : S32768x1024.Idx) := by
  have hi := (idx t).1
  blk_ext [hi]

theorem rd0 (c : Dev nD) (t : Fin cfg0.N) (r : Fin 256) (l : Fin 1024) :
    iblk m c 0 t (ix2 r l : S256x1024.Idx) = x0 m c (ix2 ⟨t.val * 256 + (r : ℕ), by have := (idx t).2.2.2.2.2.2.2.2.2.2; omega⟩ l : S32768x1024.Idx) := by
  refine Eq.trans ?_ (congrFun (V_main_arg0 m c) _)
  unfold iblk
  rw [View.read_apply]
  generalize V m c = W
  rw [cast_eq, em0]

theorem em1 (t : Fin cfg0.N) (r : Fin 256) (l : Fin 512) :
    ((cfg0.win 1).blk t).view.emb (ix2 r l : S256x512.Idx) = (ix2 ⟨t.val * 256 + (r : ℕ), by have := (idx t).2.2.2.2.2.2.2.2.2.2; omega⟩ l : S32768x512.Idx) := by
  have hi := (idx t).2.1
  blk_ext [hi]

theorem rd1 (c : Dev nD) (t : Fin cfg0.N) (r : Fin 256) (l : Fin 512) :
    iblk m c 1 t (ix2 r l : S256x512.Idx) = x1 m c (ix2 ⟨t.val * 256 + (r : ℕ), by have := (idx t).2.2.2.2.2.2.2.2.2.2; omega⟩ l : S32768x512.Idx) := by
  refine Eq.trans ?_ (congrFun (V_main_arg1 m c) _)
  unfold iblk
  rw [View.read_apply]
  generalize V m c = W
  rw [cast_eq, em1]

theorem em2 (t : Fin cfg0.N) (r : Fin 256) (l : Fin 512) :
    ((cfg0.win 2).blk t).view.emb (ix2 r l : S256x512.Idx) = (ix2 ⟨t.val * 256 + (r : ℕ), by have := (idx t).2.2.2.2.2.2.2.2.2.2; omega⟩ l : S32768x512.Idx) := by
  have hi := (idx t).2.2.1
  blk_ext [hi]

theorem rd2 (c : Dev nD) (t : Fin cfg0.N) (r : Fin 256) (l : Fin 512) :
    iblk m c 2 t (ix2 r l : S256x512.Idx) = x2 m c (ix2 ⟨t.val * 256 + (r : ℕ), by have := (idx t).2.2.2.2.2.2.2.2.2.2; omega⟩ l : S32768x512.Idx) := by
  refine Eq.trans ?_ (congrFun (V_main_arg2 m c) _)
  unfold iblk
  rw [View.read_apply]
  generalize V m c = W
  rw [cast_eq, em2]

theorem em3 (t : Fin cfg0.N) (r : Fin 1024) (l : Fin 1024) :
    ((cfg0.win 3).blk t).view.emb (ix2 r l : S1024x1024.Idx) = (ix2 r l : S1024x1024.Idx) := by
  have hi := (idx t).2.2.2.1
  blk_ext [hi]

theorem rd3 (c : Dev nD) (t : Fin cfg0.N) (r : Fin 1024) (l : Fin 1024) :
    iblk m c 3 t (ix2 r l : S1024x1024.Idx) = wo (x3 m c) (ix2 r l) := by
  refine Eq.trans ?_ (congrFun (v7_eq m c) _)
  unfold iblk
  rw [View.read_apply]
  generalize V m c = W
  rw [cast_eq, em3]

theorem em4 (t : Fin cfg0.N) (r : Fin 1) (l : Fin 1024) :
    ((cfg0.win 4).blk t).view.emb (ix2 r l : S1x1024.Idx) = (ix2 r l : S1x1024.Idx) := by
  have hi := (idx t).2.2.2.2.1
  blk_ext [hi]

theorem rd4 (c : Dev nD) (t : Fin cfg0.N) (r : Fin 1) (l : Fin 1024) :
    iblk m c 4 t (ix2 r l : S1x1024.Idx) = gn (x4 m c) (ix2 r l) := by
  refine Eq.trans ?_ (congrFun (v9_eq m c) _)
  unfold iblk
  rw [View.read_apply]
  generalize V m c = W
  rw [cast_eq, em4]

theorem em5 (t : Fin cfg0.N) (r : Fin 1024) (l : Fin 2816) :
    ((cfg0.win 5).blk t).view.emb (ix2 r l : S1024x2816.Idx) = (ix2 r l : S1024x2816.Idx) := by
  have hi := (idx t).2.2.2.2.2.1
  blk_ext [hi]

theorem rd5 (c : Dev nD) (t : Fin cfg0.N) (r : Fin 1024) (l : Fin 2816) :
    iblk m c 5 t (ix2 r l : S1024x2816.Idx) = wi (x5 m c) (ix2 r l) := by
  refine Eq.trans ?_ (congrFun (v1_eq m c) _)
  unfold iblk
  rw [View.read_apply]
  generalize V m c = W
  rw [cast_eq, em5]

theorem em6 (t : Fin cfg0.N) (r : Fin 1024) (l : Fin 2816) :
    ((cfg0.win 6).blk t).view.emb (ix2 r l : S1024x2816.Idx) = (ix2 r l : S1024x2816.Idx) := by
  have hi := (idx t).2.2.2.2.2.2.1
  blk_ext [hi]

theorem rd6 (c : Dev nD) (t : Fin cfg0.N) (r : Fin 1024) (l : Fin 2816) :
    iblk m c 6 t (ix2 r l : S1024x2816.Idx) = wi (x6 m c) (ix2 r l) := by
  refine Eq.trans ?_ (congrFun (v3_eq m c) _)
  unfold iblk
  rw [View.read_apply]
  generalize V m c = W
  rw [cast_eq, em6]

theorem em7 (t : Fin cfg0.N) (r : Fin 2816) (l : Fin 1024) :
    ((cfg0.win 7).blk t).view.emb (ix2 r l : S2816x1024.Idx) = (ix2 r l : S2816x1024.Idx) := by
  have hi := (idx t).2.2.2.2.2.2.2.1
  blk_ext [hi]

theorem rd7 (c : Dev nD) (t : Fin cfg0.N) (r : Fin 2816) (l : Fin 1024) :
    iblk m c 7 t (ix2 r l : S2816x1024.Idx) = wd (x7 m c) (ix2 r l) := by
  refine Eq.trans ?_ (congrFun (v5_eq m c) _)
  unfold iblk
  rw [View.read_apply]
  generalize V m c = W
  rw [cast_eq, em7]

theorem em8 (t : Fin cfg0.N) (r : Fin 1) (l : Fin 1024) :
    ((cfg0.win 8).blk t).view.emb (ix2 r l : S1x1024.Idx) = (ix2 r l : S1x1024.Idx) := by
  have hi := (idx t).2.2.2.2.2.2.2.2.1
  blk_ext [hi]

theorem rd8 (c : Dev nD) (t : Fin cfg0.N) (r : Fin 1) (l : Fin 1024) :
    iblk m c 8 t (ix2 r l : S1x1024.Idx) = gl (x8 m c) (ix2 r l) := by
  refine Eq.trans ?_ (congrFun (v10_eq m c) _)
  unfold iblk
  rw [View.read_apply]
  generalize V m c = W
  rw [cast_eq, em8]

theorem ld0 (X : S256x1024.Idx → EReal) (r : Fin 256) (l : Fin 1024) : View.ld (Val := Elt Ideal) (e' := .f32) X r0_0 (ix2 r l : S256x1024.Idx) = X (ix2 r l) := by
  rw [View.ld_apply]
  blk_ext
  · show 0 + 1 * (r : ℕ) = _; omega
  · show 0 + 1 * (l : ℕ) = _; omega
theorem ld1 (X : S256x512.Idx → EReal) (r : Fin 256) (l : Fin 512) : View.ld (Val := Elt Ideal) (e' := .bf16) X r0_1 (ix2 r l : S256x512.Idx) = X (ix2 r l) := by
  rw [View.ld_apply]
  blk_ext
  · show 0 + 1 * (r : ℕ) = _; omega
  · show 0 + 1 * (l : ℕ) = _; omega
theorem ld2 (X : S1024x1024.Idx → EReal) (k : Fin 512) (l : Fin 1024) : View.ld (Val := Elt Ideal) (e' := .bf16) X r0_2 (ix2 k l : S512x1024.Idx) = X (ix2 ⟨k, by omega⟩ l) := by
  rw [View.ld_apply]
  blk_ext
  · show 0 + 1 * (k : ℕ) = _; omega
  · show 0 + 1 * (l : ℕ) = _; omega
theorem ld3 (X : S1024x1024.Idx → EReal) (k : Fin 512) (l : Fin 1024) : View.ld (Val := Elt Ideal) (e' := .bf16) X r0_3 (ix2 k l : S512x1024.Idx) = X (ix2 ⟨512 + k, by omega⟩ l) := by
  rw [View.ld_apply]
  blk_ext
  · show 512 + 1 * (k : ℕ) = _; omega
  · show 0 + 1 * (l : ℕ) = _; omega
theorem ld4 (X : S1x1024.Idx → EReal) (r : Fin 1) (l : Fin 1024) : View.ld (Val := Elt Ideal) (e' := .f32) X r0_4 (ix2 r l : S1x1024.Idx) = X (ix2 r l) := by
  rw [View.ld_apply]
  blk_ext
  · show 0 + 1 * (l : ℕ) = _; omega
theorem ld5 (X : S1024x2816.Idx → EReal) (r : Fin 1024) (l : Fin 2816) : View.ld (Val := Elt Ideal) (e' := .bf16) X r0_5 (ix2 r l : S1024x2816.Idx) = X (ix2 r l) := by
  rw [View.ld_apply]
  blk_ext
  · show 0 + 1 * (r : ℕ) = _; omega
  · show 0 + 1 * (l : ℕ) = _; omega
theorem ld6 (X : S2816x1024.Idx → EReal) (r : Fin 2816) (l : Fin 1024) : View.ld (Val := Elt Ideal) (e' := .bf16) X r0_6 (ix2 r l : S2816x1024.Idx) = X (ix2 r l) := by
  rw [View.ld_apply]
  blk_ext
  · show 0 + 1 * (r : ℕ) = _; omega
  · show 0 + 1 * (l : ℕ) = _; omega

set_option maxHeartbeats 2000000 in
theorem final (c : Dev nD) : (dats m 0 c).arrAt 9 (cfgs 0).N = G m c := by
  refine (dats m 0 c).arrAt_eq_of_covers 9 _ (by decide +kernel) fun t hf y => ?_
  have hi9 := (idx t).2.2.2.2.2.2.2.2.2.1
  have ht := (idx t).2.2.2.2.2.2.2.2.2.2
  blk_simp; rw [after0_9]
  unfold Gen.out0_9
  canon_tiles x h
  case piece0 =>
    obtain ⟨r, l, rfl⟩ : ∃ (r : Fin 256) (l : Fin 1024), x = ix2 r l := ⟨x 0, x 1, eq_ix2 x⟩
    have hj : (win0_9.blk t).view.emb y = (ix2 ⟨t.val * 256 + (r : ℕ), by omega⟩ l : S32768x1024.Idx) := by
      blk_ext [hi9, h0, h1]
    have hm : (fun l => k0_pay2 (F := Ideal) (View.ld (iblk m c 0 t) r0_0) (View.ld (iblk m c 1 t) r0_1) (View.ld (iblk m c 3 t) r0_2)
        (View.ld (iblk m c 2 t) r0_1) (View.ld (iblk m c 3 t) r0_3) (ix2 r l))
        = mix (fun l => x0 m c (ix2 ⟨t.val * 256 + (r : ℕ), by omega⟩ l)) (fun k => x1 m c (ix2 ⟨t.val * 256 + (r : ℕ), by omega⟩ k))
          (fun k => x2 m c (ix2 ⟨t.val * 256 + (r : ℕ), by omega⟩ k)) (fun k l => x3 m c (ix3 (0 : Fin 1) k l)) := by
      funext l
      refine (pay2_at _ _ _ _ _ r l).trans ?_
      unfold mix
      refine congrArg₂ (· + ·) (congrArg₂ (· + ·) ((ld0 _ r l).trans (rd0 m c t r l)) (Finset.sum_congr rfl fun k _ => ?_))
        (Finset.sum_congr rfl fun k _ => ?_)
      · exact congrArg₂ (· * ·) ((ld1 _ r k).trans (rd1 m c t r k)) ((ld2 _ k l).trans ((rd3 m c t _ l).trans (wo_at _ _ l)))
      · exact congrArg₂ (· * ·) ((ld1 _ r k).trans (rd2 m c t r k)) ((ld3 _ k l).trans ((rd3 m c t _ l).trans (wo_at _ _ l)))
    rw [hj]
    refine (pay1_at _ _ _ _ r l).trans ?_
    unfold G row
    refine congrFun (congrArg₂ nrm ?_ (funext fun l => (ld4 _ 0 l).trans ((rd8 m c t 0 l).trans (gl_at _ l)))) l
    refine congr (congrArg₂ res hm ?_) (funext fun f => funext fun l => (ld6 _ f l).trans ((rd7 m c t f l).trans (wd_at _ f l)))
    funext f
    refine (pay3_at _ _ _ _ _ _ _ _ r f).trans ?_
    refine congrFun (congr (congrArg₂ hid (congrArg₂ nrm hm (funext fun l => (ld4 _ 0 l).trans ((rd4 m c t 0 l).trans (gn_at _ l)))) ?_) ?_) f
    · exact funext fun k => funext fun f => (ld5 _ k f).trans ((rd5 m c t k f).trans (wi_at _ k f))
    · exact funext fun k => funext fun f => (ld5 _ k f).trans ((rd6 m c t k f).trans (wi_at _ k f))

end Cert.OutIdeal.MlpPoint

end
-- ==== Proof.MlpRef.lean ====
module

public import proofs.«01_k».proof.Proof.Mlp
public import proofs.«01_k».proof.Proof.Gen.OutRefIdeal.Read
public import Idealize.ShloMosaic.Lib.Pointwise

@[expose] public section

set_option maxRecDepth 16384

noncomputable section

open Idealize.ShloMosaic Idealize.ShloMosaic.TcCoe Idealize.SL.Sem

namespace Cert.OutRefIdeal.MlpRef

open Cert.OutRefIdeal Cert.OutRefIdeal.Gen Cert.OutRefIdeal.Read Cert.Mlp

variable (x0 : (⟨S32768x1024, .f32⟩ : BufTy).Contents (Elt Ideal)) (x1 x2 : (⟨S32768x512, .bf16⟩ : BufTy).Contents (Elt Ideal))
  (x3 : (⟨S1x1024x1024, .f32⟩ : BufTy).Contents (Elt Ideal)) (x4 : (⟨S1x1024, .f32⟩ : BufTy).Contents (Elt Ideal))
  (x5 x6 : (⟨S1x1024x2816, .f32⟩ : BufTy).Contents (Elt Ideal)) (x7 : (⟨S1x2816x1024, .f32⟩ : BufTy).Contents (Elt Ideal))
  (x8 : (⟨S1024, .f32⟩ : BufTy).Contents (Elt Ideal))

theorem zero_word : Ideal.ofBits .f32 0x00000000#32 = 0 := by
  simp [Ideal.ofBits, Ideal.ieee]

theorem one_word : Ideal.ofBits .f32 0x3F800000#32 = 1 := by
  simp [Ideal.ofBits, Ideal.ieee]
  rw [← EReal.coe_mul]
  norm_num

theorem cat_at (R : Fin 32768) (k : Fin 1024) : val_main_v2 (F := Ideal) x1 x2 (ix2 R k)
    = if h : (k : ℕ) < 512 then x1 (ix2 R ⟨k, h⟩) else x2 (ix2 R ⟨k - 512, by omega⟩) := by
  pointwise [val_main_v2, val_main_v0, val_main_v1]

theorem w_at (k l : Fin 1024) : val_main_v3 (F := Ideal) x3 (ix2 k l) = x3 (ix3 (0 : Fin 1) k l) := by
  pointwise [val_main_v3]

theorem v5_at (R : Fin 32768) (l : Fin 1024) : val_main_v5 (F := Ideal) x0 x1 x2 x3 (ix2 R l)
    = mix (fun l => x0 (ix2 R l)) (fun k => x1 (ix2 R k)) (fun k => x2 (ix2 R k)) (fun k l => x3 (ix3 (0 : Fin 1) k l)) l := by
  rw [val_main_v5_apply, val_main_v4_apply]
  have hl : ∀ k : Fin 1024, lidx_main_v4 (ix2 R l) k = ix2 R k := fun k => funext fun a => match a with | ⟨0, _⟩ => rfl | ⟨1, _⟩ => rfl
  have hr : ∀ k : Fin 1024, ridx_main_v4 (ix2 R l) k = ix2 k l := fun k => funext fun a => match a with | ⟨0, _⟩ => rfl | ⟨1, _⟩ => rfl
  simp only [hl, hr, cat_at, w_at]
  unfold mix
  rw [add_assoc]
  refine congrArg (x0 (ix2 R l) + ·) ?_
  refine (Fin.sum_univ_add (a := 512) (b := 512) _).trans ?_
  refine congrArg₂ (· + ·) (Finset.sum_congr rfl fun k _ => ?_) (Finset.sum_congr rfl fun k _ => ?_)
  · rw [dif_pos (show ((Fin.castAdd 512 k : Fin 1024) : ℕ) < 512 from k.isLt)]
    rfl
  · rw [dif_neg (show ¬ ((Fin.natAdd 512 k : Fin 1024) : ℕ) < 512 from by show ¬ 512 + (k : ℕ) < 512; omega)]
    have e : (⟨((Fin.natAdd 512 k : Fin 1024) : ℕ) - 512, by have := k.isLt; show 512 + (k : ℕ) - 512 < 512; omega⟩ : Fin 512) = k :=
      Fin.ext (by show 512 + (k : ℕ) - 512 = k; omega)
    rw [e]
    rfl

theorem v19_at (R : Fin 32768) (l : Fin 1024) : val_main_v19 (F := Ideal) x0 x1 x2 x3 x4 (ix2 R l)
    = nrm (fun l => val_main_v5 (F := Ideal) x0 x1 x2 x3 (ix2 R l)) (fun l => x4 (ix2 (0 : Fin 1) l)) l := by
  have hr : ∀ R : Fin 32768, val_main_v8 (F := Ideal) x0 x1 x2 x3 (ix1 R)
      = ∑ k : Fin 1024, val_main_v5 (F := Ideal) x0 x1 x2 x3 (ix2 R k) * val_main_v5 (F := Ideal) x0 x1 x2 x3 (ix2 R k) := by
    intro R
    rw [val_main_v8_apply, val_main_cst_apply]
    have hi : ∀ k : Fin 1024, idx_main_v8 (ix1 R) k = ix2 R k := fun k => funext fun a => match a with | ⟨0, _⟩ => rfl | ⟨1, _⟩ => rfl
    simp only [hi, val_main_v7_apply]
    refine (congrArg (· + _) (show _ = (0 : EReal) from zero_word)).trans (zero_add _)
  have hg : val_main_v18 (F := Ideal) x4 (ix2 R l) = x4 (ix2 (0 : Fin 1) l) := by
    pointwise [val_main_v18, val_main_v17, val_main_v6]
  have hs : val_main_v15 (F := Ideal) x0 x1 x2 x3 (ix2 R l)
      = Ideal.rsqrt (Ideal.div (val_main_v8 (F := Ideal) x0 x1 x2 x3 (ix1 R)) (Ideal.ofBits .f32 0x44800000#32) + Ideal.ofBits .f32 0x358637BD#32) := by
    unfold val_main_v15 val_main_v14 val_main_v13 val_main_v11 val_main_v9
    generalize val_main_v8 (F := Ideal) x0 x1 x2 x3 = y
    pointwise [val_main_v10, val_main_v12, val_main_cst_0, val_main_cst_1]
  rw [val_main_v19_apply, val_main_v16_apply, hg, hs, hr]
  rfl

theorem v25_at (R : Fin 32768) (f : Fin 2816) : val_main_v25 (F := Ideal) x0 x1 x2 x3 x4 x5 x6 (ix2 R f)
    = hid (fun k => val_main_v19 (F := Ideal) x0 x1 x2 x3 x4 (ix2 R k)) (fun k f => x5 (ix3 (0 : Fin 1) k f)) (fun k f => x6 (ix3 (0 : Fin 1) k f)) f := by
  have hg : val_main_v21 (F := Ideal) x0 x1 x2 x3 x4 x5 (ix2 R f)
      = ∑ k : Fin 1024, val_main_v19 (F := Ideal) x0 x1 x2 x3 x4 (ix2 R k) * x5 (ix3 (0 : Fin 1) k f) := by
    rw [val_main_v21_apply]
    have hl : ∀ k : Fin 1024, lidx_main_v21 (ix2 R f) k = ix2 R k := fun k => funext fun a => match a with | ⟨0, _⟩ => rfl | ⟨1, _⟩ => rfl
    have hr : ∀ k : Fin 1024, ridx_main_v21 (ix2 R f) k = ix2 k f := fun k => funext fun a => match a with | ⟨0, _⟩ => rfl | ⟨1, _⟩ => rfl
    have hw : ∀ k : Fin 1024, val_main_v20 (F := Ideal) x5 (ix2 k f) = x5 (ix3 (0 : Fin 1) k f) := fun k => by
      pointwise [val_main_v20]
    simp only [hl, hr, hw]
  have hu : val_main_v24 (F := Ideal) x0 x1 x2 x3 x4 x6 (ix2 R f)
      = ∑ k : Fin 1024, val_main_v19 (F := Ideal) x0 x1 x2 x3 x4 (ix2 R k) * x6 (ix3 (0 : Fin 1) k f) := by
    rw [val_main_v24_apply]
    have hl : ∀ k : Fin 1024, lidx_main_v24 (ix2 R f) k = ix2 R k := fun k => funext fun a => match a with | ⟨0, _⟩ => rfl | ⟨1, _⟩ => rfl
    have hr : ∀ k : Fin 1024, ridx_main_v24 (ix2 R f) k = ix2 k f := fun k => funext fun a => match a with | ⟨0, _⟩ => rfl | ⟨1, _⟩ => rfl
    have hw : ∀ k : Fin 1024, val_main_v23 (F := Ideal) x6 (ix2 k f) = x6 (ix3 (0 : Fin 1) k f) := fun k => by
      pointwise [val_main_v23]
    simp only [hl, hr, hw]
  have hs : val_main_call0_v5 (F := Ideal) x0 x1 x2 x3 x4 x5 (ix2 R f)
      = Ideal.logistic (val_main_v21 (F := Ideal) x0 x1 x2 x3 x4 x5 (ix2 R f)) := by
    rw [val_main_call0_v5_apply, val_main_call0_v4_apply, val_main_call0_v3_apply, val_main_call0_v2_apply, val_main_call0_v1_apply,
      val_main_call0_v0_apply, val_main_call0_cst_apply, val_main_call0_cst_0_apply]
    generalize val_main_v21 (F := Ideal) x0 x1 x2 x3 x4 x5 (ix2 R f) = y
    show Ideal.div (Ideal.ofBits .f32 0x3F800000#32) (Ideal.ofBits .f32 0x3F800000#32 + Ideal.exp (-y)) = _
    rw [one_word]
    rfl
  rw [val_main_v25_apply, val_main_v22_apply, hs, hg, hu]
  rfl

theorem v30_at (R : Fin 32768) (l : Fin 1024) : val_main_v30 (F := Ideal) x0 x1 x2 x3 x4 x5 x6 x7 (ix2 R l)
    = res (fun l => val_main_v5 (F := Ideal) x0 x1 x2 x3 (ix2 R l)) (fun f => val_main_v25 (F := Ideal) x0 x1 x2 x3 x4 x5 x6 (ix2 R f))
        (fun f l => x7 (ix3 (0 : Fin 1) f l)) l := by
  rw [val_main_v30_apply, val_main_v29_apply, val_main_v28_apply, val_main_v27_apply]
  have hl : ∀ k : Fin 2816, lidx_main_v27 (ix2 R l) k = ix2 R k := fun k => funext fun a => match a with | ⟨0, _⟩ => rfl | ⟨1, _⟩ => rfl
  have hr : ∀ k : Fin 2816, ridx_main_v27 (ix2 R l) k = ix2 k l := fun k => funext fun a => match a with | ⟨0, _⟩ => rfl | ⟨1, _⟩ => rfl
  have hw : ∀ k : Fin 2816, val_main_v26 (F := Ideal) x7 (ix2 k l) = x7 (ix3 (0 : Fin 1) k l) := fun k => by
    pointwise [val_main_v26]
  simp only [hl, hr, hw]
  rfl

theorem v43_at (R : Fin 32768) (l : Fin 1024) : val_main_v43 (F := Ideal) x0 x1 x2 x3 x4 x5 x6 x7 x8 (ix2 R l)
    = nrm (fun l => val_main_v30 (F := Ideal) x0 x1 x2 x3 x4 x5 x6 x7 (ix2 R l)) (fun l => x8 (ix1 l)) l := by
  have hr : ∀ R : Fin 32768, val_main_v32 (F := Ideal) x0 x1 x2 x3 x4 x5 x6 x7 (ix1 R)
      = ∑ k : Fin 1024, val_main_v30 (F := Ideal) x0 x1 x2 x3 x4 x5 x6 x7 (ix2 R k) * val_main_v30 (F := Ideal) x0 x1 x2 x3 x4 x5 x6 x7 (ix2 R k) := by
    intro R
    rw [val_main_v32_apply]
    have hi : ∀ k : Fin 1024, idx_main_v32 (ix1 R) k = ix2 R k := fun k => funext fun a => match a with | ⟨0, _⟩ => rfl | ⟨1, _⟩ => rfl
    simp only [hi, val_main_v31_apply]
    refine (congrArg (· + _) (show _ = (0 : EReal) from zero_word)).trans (zero_add _)
  have hg : val_main_v42 (F := Ideal) x8 (ix2 R l) = x8 (ix1 l) := by
    pointwise [val_main_v42, val_main_v41]
  have hs : val_main_v39 (F := Ideal) x0 x1 x2 x3 x4 x5 x6 x7 (ix2 R l)
      = Ideal.rsqrt (Ideal.div (val_main_v32 (F := Ideal) x0 x1 x2 x3 x4 x5 x6 x7 (ix1 R)) (Ideal.ofBits .f32 0x44800000#32) + Ideal.ofBits .f32 0x358637BD#32) := by
    unfold val_main_v39 val_main_v38 val_main_v37 val_main_v35 val_main_v33
    generalize val_main_v32 (F := Ideal) x0 x1 x2 x3 x4 x5 x6 x7 = y
    pointwise [val_main_v34, val_main_v36, val_main_cst_4, val_main_cst_5]
  rw [val_main_v43_apply, val_main_v40_apply, hg, hs, hr]
  rfl

/-- The reference's element is the row function of the arguments. -/
theorem at_row (R : Fin 32768) (l : Fin 1024) : val_main_v43 (F := Ideal) x0 x1 x2 x3 x4 x5 x6 x7 x8 (ix2 R l)
    = row (fun l => x0 (ix2 R l)) (fun k => x1 (ix2 R k)) (fun k => x2 (ix2 R k)) (fun k l => x3 (ix3 (0 : Fin 1) k l))
        (fun l => x4 (ix2 (0 : Fin 1) l)) (fun k f => x5 (ix3 (0 : Fin 1) k f)) (fun k f => x6 (ix3 (0 : Fin 1) k f))
        (fun f l => x7 (ix3 (0 : Fin 1) f l)) (fun l => x8 (ix1 l)) l := by
  rw [v43_at]
  unfold row
  simp only [funext (v30_at x0 x1 x2 x3 x4 x5 x6 x7 R), funext (v25_at x0 x1 x2 x3 x4 x5 x6 R), funext (v19_at x0 x1 x2 x3 x4 R),
    funext (v5_at x0 x1 x2 x3 R)]

end Cert.OutRefIdeal.MlpRef

end
-- ==== Proof.InpPay.lean ====
module

public import proofs.«01_k».proof.Proof.Mlp
public import proofs.«01_k».proof.Proof.Gen.InpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! One token's row through the first feed-forward part and the input projection. -/
namespace Cert.Inp.Row

open Cert.Mlp

/-- The row after the first feed-forward part. -/
def ffn (x g : Fin 1024 → EReal) (wg wu : Fin 1024 → Fin 2816 → EReal) (wd : Fin 2816 → Fin 1024 → EReal) : Fin 1024 → EReal :=
  res x (hid (nrm x g) wg wu) wd

/-- One element of a row's projection. -/
def prj (h w : Fin 1024 → EReal) : EReal := ∑ k : Fin 1024, h k * w k

/-- The row an entry of the kept keys and values is from: the last 512 of each sequence. -/
def late (n : Fin 2048) : Fin 32768 := ⟨(n : ℕ) / 512 * 8192 + 7680 + (n : ℕ) % 512, by omega⟩

end Cert.Inp.Row

namespace Cert.InpIdeal.Pay

open Cert.InpIdeal Cert.InpIdeal.Gen Cert.Mlp Cert.Inp.Row

variable (v0 v31 v35 : FVec Ideal S256x1024 .f32) (v1 v34 : FVec Ideal S1x1024 .f32) (v16 v19 : FVec Ideal S1024x2816 .bf16)
  (v26 : FVec Ideal S2816x1024 .bf16) (v47 : FVec Ideal S256x1024 .bf16) (w : FVec Ideal S1024x512 .bf16)

theorem pay2_at (r : Fin 256) (l : Fin 1024) :
    k0_pay2 (F := Ideal) v0 v1 v16 v19 v26 (ix2 r l)
      = ffn (fun l => v0 (ix2 r l)) (fun l => v1 (ix2 (0 : Fin 1) l)) (fun k f => v16 (ix2 k f)) (fun k f => v19 (ix2 k f))
          (fun f l => v26 (ix2 f l)) l := by
  pointwise [k0_pay2]
  unfold ffn res hid nrm
  rfl

theorem pay5_at (r : Fin 256) (l : Fin 1024) :
    k0_pay5 (F := Ideal) v31 v34 (mulf v31 v31) (ix2 r l)
      = nrm (fun l => v31 (ix2 r l)) (fun l => v34 (ix2 (0 : Fin 1) l)) l := by
  pointwise [k0_pay5]
  unfold nrm
  rfl

theorem pay7_at (r : Fin 256) (l : Fin 512) :
    k0_pay7 (F := Ideal) v31 v34 v35 w (ix2 r l) = prj (fun k => k0_pay5 (F := Ideal) v31 v34 v35 (ix2 r k)) (fun k => w (ix2 k l)) := by
  unfold k0_pay7
  generalize k0_pay5 (F := Ideal) v31 v34 v35 = y
  pointwise
  rfl

theorem pay9_at (r : Fin 256) (l : Fin 512) :
    k0_pay9 (F := Ideal) v31 v34 v35 w (ix2 r l) = prj (fun k => k0_pay5 (F := Ideal) v31 v34 v35 (ix2 r k)) (fun k => w (ix2 k l)) := by
  unfold k0_pay9
  generalize k0_pay5 (F := Ideal) v31 v34 v35 = y
  pointwise
  rfl

theorem pay38_at (r : Fin 256) (l : Fin 512) :
    k0_pay38 (F := Ideal) v47 w (ix2 r l) = prj (fun k => v47 (ix2 r k)) (fun k => w (ix2 k l)) := by
  pointwise [k0_pay38]
  rfl

end Cert.InpIdeal.Pay

end
-- ==== Proof.InpPoint.lean ====
module

public import proofs.«01_k».proof.Proof.InpPay
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.InpIdeal.Point

open Cert.InpIdeal Cert.InpIdeal.Gen Cert.InpIdeal.Pay Cert.Mlp Cert.Inp.Row Idealize.ShloMosaic.StableHlo

variable (m : (ℓ : Loc nD τ sig) → Buf (Elt Ideal) ℓ)

/-- The arguments, by their entries. -/
def x0 (c : Dev nD) : S32768x1024.Idx → EReal := m ((c : Thread nD τ).loc main_arg0)
def x1 (c : Dev nD) : S1x1024.Idx → EReal := m ((c : Thread nD τ).loc main_arg1)
def x2 (c : Dev nD) : S1x1024x2816.Idx → EReal := m ((c : Thread nD τ).loc main_arg2)
def x3 (c : Dev nD) : S1x1024x2816.Idx → EReal := m ((c : Thread nD τ).loc main_arg3)
def x4 (c : Dev nD) : S1x2816x1024.Idx → EReal := m ((c : Thread nD τ).loc main_arg4)
def x5 (c : Dev nD) : S1x1024.Idx → EReal := m ((c : Thread nD τ).loc main_arg5)
def x6 (c : Dev nD) : S1x1024x3368.Idx → EReal := m ((c : Thread nD τ).loc main_arg6)

/-- A token's row after the first feed-forward part. -/
def mid (c : Dev nD) (R : Fin 32768) : Fin 1024 → EReal :=
  ffn (fun l => x0 m c (ix2 R l)) (fun l => x1 m c (ix2 (0 : Fin 1) l)) (fun k f => x2 m c (ix3 (0 : Fin 1) k f))
    (fun k f => x3 m c (ix3 (0 : Fin 1) k f)) (fun f l => x4 m c (ix3 (0 : Fin 1) f l))

/-- That row, divided by its root mean square, times the gain. -/
def hm (c : Dev nD) (R : Fin 32768) : Fin 1024 → EReal := nrm (mid m c R) (fun l => x5 m c (ix2 (0 : Fin 1) l))

/-- An element of the row's projection. -/
def pj (c : Dev nD) (R : Fin 32768) (q : Fin 3368) : EReal := prj (hm m c R) (fun k => x6 m c (ix3 (0 : Fin 1) k q))

/-- What the call leaves. -/
def G13 (c : Dev nD) (j : S32768x1024.Idx) : EReal := mid m c (j 0) (j 1)
def G20 (c : Dev nD) (j : S2048x512.Idx) : EReal := pj m c (late (j 0)) ⟨512 + (j 1).val, Nat.lt_of_lt_of_le (Nat.add_lt_add_left (j 1).isLt 512) (by decide)⟩
def G21 (c : Dev nD) (j : S2048x512.Idx) : EReal := pj m c (late (j 0)) ⟨1024 + (j 1).val, Nat.lt_of_lt_of_le (Nat.add_lt_add_left (j 1).isLt 1024) (by decide)⟩
def G23 (c : Dev nD) (j : S32768x512.Idx) : EReal := pj m c (j 0) ⟨2560 + (j 1).val, Nat.lt_of_lt_of_le (Nat.add_lt_add_left (j 1).isLt 2560) (by decide)⟩

/-- The weights as the kernel is handed them. -/
def wi (a : S1x1024x2816.Idx → EReal) : S1024x2816.Idx → EReal :=
  truncf (F := Ideal) (φ := .f32) .bf16 (shapeCast S1024x2816 a shapeCasts_S1x1024x2816_S1024x2816 : S1024x2816.Idx → EReal) bitsLt_bf16_f32
def wd (a : S1x2816x1024.Idx → EReal) : S2816x1024.Idx → EReal :=
  truncf (F := Ideal) (φ := .f32) .bf16 (shapeCast S2816x1024 a shapeCasts_S1x2816x1024_S2816x1024 : S2816x1024.Idx → EReal) bitsLt_bf16_f32
def gn (a : S1x1024.Idx → EReal) : S1x1024.Idx → EReal :=
  shapeCast S1x1024 (shapeCast S1024 a shapeCasts_S1x1024_S1024 : S1024.Idx → EReal) shapeCasts_S1024_S1x1024
def wp (a : S1x1024x3368.Idx → EReal) : S1024x3456.Idx → EReal :=
  truncf (F := Ideal) (φ := .f32) .bf16 (pad S1024x3456 ![0, 0] ![0, 88] ![0, 0]
    (shapeCast S1024x3368 a shapeCasts_S1x1024x3368_S1024x3368 : S1024x3368.Idx → EReal)
    (sitofp (F := Ideal) .f32 (constantI S_ 32 0#32) : S_.Idx → EReal) pads_S1024x3368_S1024x3456_000_0880 h_S_ : S1024x3456.Idx → EReal) bitsLt_bf16_f32

theorem wi_at (a : S1x1024x2816.Idx → EReal) (k : Fin 1024) (f : Fin 2816) : wi a (ix2 k f) = a (ix3 (0 : Fin 1) k f) := by
  pointwise [wi]
theorem wd_at (a : S1x2816x1024.Idx → EReal) (f : Fin 2816) (l : Fin 1024) : wd a (ix2 f l) = a (ix3 (0 : Fin 1) f l) := by
  pointwise [wd]
theorem gn_at (a : S1x1024.Idx → EReal) (l : Fin 1024) : gn a (ix2 (0 : Fin 1) l) = a (ix2 (0 : Fin 1) l) := by
  pointwise [gn]
theorem wp_at (a : S1x1024x3368.Idx → EReal) (k : Fin 1024) (q : Fin 3456) (hq : (q : ℕ) < 3368) :
    wp a (ix2 k q) = a (ix3 (0 : Fin 1) k ⟨q, hq⟩) := by
  pointwise [wp]
  split
  · rfl
  · rename_i h
    exact absurd hq (by omega)

theorem v10_eq (c : Dev nD) : V m c main_v10 = gn (x1 m c) := by
  unfold V
  unfold hostOps0
  after_reads_simp
  unfold gn x1
  rfl

theorem v1_eq (c : Dev nD) : V m c main_v1 = wi (x2 m c) := by
  unfold V
  unfold hostOps0
  after_reads_simp
  unfold wi x2
  rfl

theorem v3_eq (c : Dev nD) : V m c main_v3 = wi (x3 m c) := by
  unfold V
  unfold hostOps0
  after_reads_simp
  unfold wi x3
  rfl

theorem v5_eq (c : Dev nD) : V m c main_v5 = wd (x4 m c) := by
  unfold V
  unfold hostOps0
  after_reads_simp
  unfold wd x4
  rfl

theorem v12_eq (c : Dev nD) : V m c main_v12 = gn (x5 m c) := by
  unfold V
  unfold hostOps0
  after_reads_simp
  unfold gn x5
  rfl

theorem v8_eq (c : Dev nD) : V m c main_v8 = wp (x6 m c) := by
  unfold V
  unfold hostOps0
  after_reads_simp
  unfold wp x6
  rfl

theorem tlt (t : Fin cfg0.N) : t.val < 128 := (by decide +kernel : ∀ t : Fin grid0.N, t.val < 128) t
theorem at0 : ∀ t : Fin cfg0.N, win0_0.index t = ![t.val, 0] := (by decide +kernel : ∀ t : Fin grid0.N, _)
theorem at13 : ∀ t : Fin cfg0.N, win0_13.index t = ![t.val, 0] := (by decide +kernel : ∀ t : Fin grid0.N, _)
theorem at23 : ∀ t : Fin cfg0.N, win0_23.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at20 : ∀ t : Fin cfg0.N, win0_20.flush t = true → win0_20.index t = ![t.val / 32 * 2 + (t.val % 32 - 30), 0] ∧ 30 ≤ t.val % 32 :=
  (by decide +kernel : ∀ t : Fin grid0.N, _)
theorem at21 : ∀ t : Fin cfg0.N, win0_21.flush t = true → win0_21.index t = ![t.val / 32 * 2 + (t.val % 32 - 30), 0] ∧ 30 ≤ t.val % 32 :=
  (by decide +kernel : ∀ t : Fin grid0.N, _)

theorem em0 (t : Fin cfg0.N) (r : Fin 256) (l : Fin 1024) :
    ((cfg0.win 0).blk t).view.emb (ix2 r l : S256x1024.Idx) = (ix2 ⟨t.val * 256 + (r : ℕ), by have := tlt t; omega⟩ l : S32768x1024.Idx) := by
  have hi := at0 t
  blk_ext [hi]

theorem rd0 (c : Dev nD) (t : Fin cfg0.N) (r : Fin 256) (l : Fin 1024) :
    iblk m c 0 t (ix2 r l : S256x1024.Idx) = x0 m c (ix2 ⟨t.val * 256 + (r : ℕ), by have := tlt t; omega⟩ l : S32768x1024.Idx) := by
  refine Eq.trans ?_ (congrFun (V_main_arg0 m c) _)
  unfold iblk
  rw [View.read_apply]
  generalize V m c = W
  rw [cast_eq, em0]

theorem em1 (t : Fin cfg0.N) (r : Fin 1) (l : Fin 1024) :
    ((cfg0.win 1).blk t).view.emb (ix2 r l : S1x1024.Idx) = (ix2 r l : S1x1024.Idx) := by
  have hi := at1 t
  blk_ext [hi]

theorem rd1 (c : Dev nD) (t : Fin cfg0.N) (r : Fin 1) (l : Fin 1024) :
    iblk m c 1 t (ix2 r l : S1x1024.Idx) = gn (x1 m c) (ix2 r l) := by
  refine Eq.trans ?_ (congrFun (v10_eq m c) _)
  unfold iblk
  rw [View.read_apply]
  generalize V m c = W
  rw [cast_eq, em1]

theorem em2 (t : Fin cfg0.N) (r : Fin 1024) (l : Fin 2816) :
    ((cfg0.win 2).blk t).view.emb (ix2 r l : S1024x2816.Idx) = (ix2 r l : S1024x2816.Idx) := by
  have hi := at2 t
  blk_ext [hi]

theorem rd2 (c : Dev nD) (t : Fin cfg0.N) (r : Fin 1024) (l : Fin 2816) :
    iblk m c 2 t (ix2 r l : S1024x2816.Idx) = wi (x2 m c) (ix2 r l) := by
  refine Eq.trans ?_ (congrFun (v1_eq m c) _)
  unfold iblk
  rw [View.read_apply]
  generalize V m c = W
  rw [cast_eq, em2]

theorem em3 (t : Fin cfg0.N) (r : Fin 1024) (l : Fin 2816) :
    ((cfg0.win 3).blk t).view.emb (ix2 r l : S1024x2816.Idx) = (ix2 r l : S1024x2816.Idx) := by
  have hi := at3 t
  blk_ext [hi]

theorem rd3 (c : Dev nD) (t : Fin cfg0.N) (r : Fin 1024) (l : Fin 2816) :
    iblk m c 3 t (ix2 r l : S1024x2816.Idx) = wi (x3 m c) (ix2 r l) := by
  refine Eq.trans ?_ (congrFun (v3_eq m c) _)
  unfold iblk
  rw [View.read_apply]
  generalize V m c = W
  rw [cast_eq, em3]

theorem em4 (t : Fin cfg0.N) (r : Fin 2816) (l : Fin 1024) :
    ((cfg0.win 4).blk t).view.emb (ix2 r l : S2816x1024.Idx) = (ix2 r l : S2816x1024.Idx) := by
  have hi := at4 t
  blk_ext [hi]

theorem rd4 (c : Dev nD) (t : Fin cfg0.N) (r : Fin 2816) (l : Fin 1024) :
    iblk m c 4 t (ix2 r l : S2816x1024.Idx) = wd (x4 m c) (ix2 r l) := by
  refine Eq.trans ?_ (congrFun (v5_eq m c) _)
  unfold iblk
  rw [View.read_apply]
  generalize V m c = W
  rw [cast_eq, em4]

theorem em5 (t : Fin cfg0.N) (r : Fin 1) (l : Fin 1024) :
    ((cfg0.win 5).blk t).view.emb (ix2 r l : S1x1024.Idx) = (ix2 r l : S1x1024.Idx) := by
  have hi := at5 t
  blk_ext [hi]

theorem rd5 (c : Dev nD) (t : Fin cfg0.N) (r : Fin 1) (l : Fin 1024) :
    iblk m c 5 t (ix2 r l : S1x1024.Idx) = gn (x5 m c) (ix2 r l) := by
  refine Eq.trans ?_ (congrFun (v12_eq m c) _)
  unfold iblk
  rw [View.read_apply]
  generalize V m c = W
  rw [cast_eq, em5]

theorem em6 (t : Fin cfg0.N) (r : Fin 1024) (l : Fin 3456) :
    ((cfg0.win 6).blk t).view.emb (ix2 r l : S1024x3456.Idx) = (ix2 r l : S1024x3456.Idx) := by
  have hi := at6 t
  blk_ext [hi]

theorem rd6 (c : Dev nD) (t : Fin cfg0.N) (r : Fin 1024) (l : Fin 3456) :
    iblk m c 6 t (ix2 r l : S1024x3456.Idx) = wp (x6 m c) (ix2 r l) := by
  refine Eq.trans ?_ (congrFun (v8_eq m c) _)
  unfold iblk
  rw [View.read_apply]
  generalize V m c = W
  rw [cast_eq, em6]

theorem ld0 (X : S256x1024.Idx → EReal) (r : Fin 256) (l : Fin 1024) : View.ld (Val := Elt Ideal) (e' := .f32) X r0_0 (ix2 r l : S256x1024.Idx) = X (ix2 r l) := by
  rw [View.ld_apply]
  blk_ext
  · show 0 + 1 * (r : ℕ) = _; omega
  · show 0 + 1 * (l : ℕ) = _; omega
theorem ld1 (X : S1x1024.Idx → EReal) (r : Fin 1) (l : Fin 1024) : View.ld (Val := Elt Ideal) (e' := .f32) X r0_1 (ix2 r l : S1x1024.Idx) = X (ix2 r l) := by
  rw [View.ld_apply]
  blk_ext
  · show 0 + 1 * (l : ℕ) = _; omega
theorem ld2 (X : S1024x2816.Idx → EReal) (r : Fin 1024) (l : Fin 2816) : View.ld (Val := Elt Ideal) (e' := .bf16) X r0_2 (ix2 r l : S1024x2816.Idx) = X (ix2 r l) := by
  rw [View.ld_apply]
  blk_ext
  · show 0 + 1 * (r : ℕ) = _; omega
  · show 0 + 1 * (l : ℕ) = _; omega
theorem ld3 (X : S2816x1024.Idx → EReal) (r : Fin 2816) (l : Fin 1024) : View.ld (Val := Elt Ideal) (e' := .bf16) X r0_3 (ix2 r l : S2816x1024.Idx) = X (ix2 r l) := by
  rw [View.ld_apply]
  blk_ext
  · show 0 + 1 * (r : ℕ) = _; omega
  · show 0 + 1 * (l : ℕ) = _; omega
theorem ld6 (X : S1024x3456.Idx → EReal) (k : Fin 1024) (l : Fin 512) :
    View.ld (Val := Elt Ideal) (e' := .bf16) X r0_6 (ix2 k l : S1024x512.Idx) = X (ix2 k ⟨512 + l, by omega⟩) := by
  rw [View.ld_apply]
  blk_ext
  · show 0 + 1 * (k : ℕ) = _; omega
  · show 512 + 1 * (l : ℕ) = _; omega
theorem ld7 (X : S1024x3456.Idx → EReal) (k : Fin 1024) (l : Fin 512) :
    View.ld (Val := Elt Ideal) (e' := .bf16) X r0_7 (ix2 k l : S1024x512.Idx) = X (ix2 k ⟨1024 + l, by omega⟩) := by
  rw [View.ld_apply]
  blk_ext
  · show 0 + 1 * (k : ℕ) = _; omega
  · show 1024 + 1 * (l : ℕ) = _; omega
theorem ld11 (X : S1024x3456.Idx → EReal) (k : Fin 1024) (l : Fin 512) :
    View.ld (Val := Elt Ideal) (e' := .bf16) X r0_11 (ix2 k l : S1024x512.Idx) = X (ix2 k ⟨2560 + l, by omega⟩) := by
  rw [View.ld_apply]
  blk_ext
  · show 0 + 1 * (k : ℕ) = _; omega
  · show 2560 + 1 * (l : ℕ) = _; omega

/-- The row after the first feed-forward part, as the body computes it at a point. -/
theorem mid_at (c : Dev nD) (t : Fin cfg0.N) (r : Fin 256) (l : Fin 1024) :
    k0_pay2 (F := Ideal) (View.ld (iblk m c 0 t) r0_0) (View.ld (iblk m c 1 t) r0_1) (View.ld (iblk m c 2 t) r0_2)
        (View.ld (iblk m c 3 t) r0_2) (View.ld (iblk m c 4 t) r0_3) (ix2 r l)
      = mid m c ⟨t.val * 256 + (r : ℕ), by have := tlt t; omega⟩ l := by
  refine (pay2_at _ _ _ _ _ r l).trans ?_
  unfold mid
  refine congrFun (congr (congr (congr (congrArg₂ ffn (funext fun l => (ld0 _ r l).trans (rd0 m c t r l))
    (funext fun l => (ld1 _ 0 l).trans ((rd1 m c t 0 l).trans (gn_at _ l)))) ?_) ?_) ?_) l
  · exact funext fun k => funext fun f => (ld2 _ k f).trans ((rd2 m c t k f).trans (wi_at _ k f))
  · exact funext fun k => funext fun f => (ld2 _ k f).trans ((rd3 m c t k f).trans (wi_at _ k f))
  · exact funext fun f => funext fun l => (ld3 _ f l).trans ((rd4 m c t f l).trans (wd_at _ f l))

/-- The row the projections read. -/
theorem hm_at (c : Dev nD) (t : Fin cfg0.N) (r : Fin 256) (l : Fin 1024) :
    k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
      = hm m c ⟨t.val * 256 + (r : ℕ), by have := tlt t; omega⟩ l := by
  unfold k0_pay54 k0_pay51 k0_pay52 k0_pay53 k0_pay4
  refine (pay5_at _ _ r l).trans ?_
  unfold hm
  refine congrFun (congrArg₂ nrm (funext fun l => mid_at m c t r l) (funext fun l => ?_)) l
  unfold k0_pay3
  rw [shapeCast_self]
  exact (ld1 _ 0 l).trans ((rd5 m c t 0 l).trans (gn_at _ l))

/-- A column of the projection's weights. -/
theorem wcol (c : Dev nD) (t : Fin cfg0.N) (k : Fin 1024) (q : Fin 3368) :
    iblk m c 6 t (ix2 k ⟨(q : ℕ), by omega⟩ : S1024x3456.Idx) = x6 m c (ix3 (0 : Fin 1) k q) := by
  rw [rd6, wp_at _ _ _ q.isLt]

end Cert.InpIdeal.Point

end
-- ==== Proof.InpFinal.lean ====
module

public import proofs.«01_k».proof.Proof.InpPoint
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.InpIdeal.Point

open Cert.InpIdeal Cert.InpIdeal.Gen Cert.InpIdeal.Pay Cert.Mlp Cert.Inp.Row Idealize.ShloMosaic.StableHlo

variable (m : (ℓ : Loc nD τ sig) → Buf (Elt Ideal) ℓ)

set_option maxHeartbeats 2000000 in
theorem final13 (c : Dev nD) : (dats m 0 c).arrAt 13 (cfgs 0).N = G13 m c := by
  refine (dats m 0 c).arrAt_eq_of_covers 13 _ (by decide +kernel) fun t hf y => ?_
  have ht := tlt t
  have hi := at13 t
  blk_simp; rw [after0_13]
  unfold Gen.out0_13
  canon_tiles x h
  case piece0 =>
    obtain ⟨r, l, rfl⟩ : ∃ (r : Fin 256) (l : Fin 1024), x = ix2 r l := ⟨x 0, x 1, eq_ix2 x⟩
    have hj : (win0_13.blk t).view.emb y = (ix2 ⟨t.val * 256 + (r : ℕ), by omega⟩ l : S32768x1024.Idx) := by
      blk_ext [hi, h0, h1]
    rw [hj]
    exact mid_at m c t r l

set_option maxHeartbeats 2000000 in
theorem final23 (c : Dev nD) : (dats m 0 c).arrAt 23 (cfgs 0).N = G23 m c := by
  refine (dats m 0 c).arrAt_eq_of_covers 23 _ (by decide +kernel) fun t hf y => ?_
  have ht := tlt t
  have hi := at23 t
  blk_simp; rw [after0_23]
  unfold Gen.out0_23
  canon_tiles x h
  case piece0 =>
    obtain ⟨r, l, rfl⟩ : ∃ (r : Fin 256) (l : Fin 512), x = ix2 r l := ⟨x 0, x 1, eq_ix2 x⟩
    have hj : (win0_23.blk t).view.emb y = (ix2 ⟨t.val * 256 + (r : ℕ), by omega⟩ l : S32768x512.Idx) := by
      blk_ext [hi, h0, h1]
    rw [hj]
    refine (pay38_at _ _ r l).trans ?_
    unfold G23 pj
    exact congrArg₂ prj (funext fun k => hm_at m c t r k) (funext fun k => (ld11 _ k l).trans (wcol m c t k ⟨2560 + (l : ℕ), by omega⟩))

set_option maxHeartbeats 2000000 in
theorem final20 (c : Dev nD) : (dats m 0 c).arrAt 20 (cfgs 0).N = G20 m c := by
  refine (dats m 0 c).arrAt_eq_of_covers 20 _ (by decide +kernel) fun t hf y => ?_
  have ht := tlt t
  have hi := (at20 t hf).1
  have h30 := (at20 t hf).2
  blk_simp; rw [after0_20]
  unfold Gen.out0_20
  canon_tiles x h
  case piece0 =>
    obtain ⟨r, l, rfl⟩ : ∃ (r : Fin 256) (l : Fin 512), x = ix2 r l := ⟨x 0, x 1, eq_ix2 x⟩
    have hj : (win0_20.blk t).view.emb y = (ix2 ⟨(t.val / 32 * 2 + (t.val % 32 - 30)) * 256 + (r : ℕ), by omega⟩ l : S2048x512.Idx) := by
      blk_ext [hi, h0, h1]
    rw [hj]
    have hR : late ⟨(t.val / 32 * 2 + (t.val % 32 - 30)) * 256 + (r : ℕ), by omega⟩ = ⟨t.val * 256 + (r : ℕ), by omega⟩ := by
      refine Fin.ext ?_
      show ((t.val / 32 * 2 + (t.val % 32 - 30)) * 256 + (r : ℕ)) / 512 * 8192 + 7680 + ((t.val / 32 * 2 + (t.val % 32 - 30)) * 256 + (r : ℕ)) % 512
        = t.val * 256 + (r : ℕ)
      omega
    refine (pay7_at _ _ _ _ r l).trans ?_
    unfold G20
    show _ = pj m c (late ⟨(t.val / 32 * 2 + (t.val % 32 - 30)) * 256 + (r : ℕ), by omega⟩) ⟨512 + (l : ℕ), by omega⟩
    rw [hR]
    unfold pj
    exact congrArg₂ prj (funext fun k => hm_at m c t r k) (funext fun k => (ld6 _ k l).trans (wcol m c t k ⟨512 + (l : ℕ), by omega⟩))

set_option maxHeartbeats 2000000 in
theorem final21 (c : Dev nD) : (dats m 0 c).arrAt 21 (cfgs 0).N = G21 m c := by
  refine (dats m 0 c).arrAt_eq_of_covers 21 _ (by decide +kernel) fun t hf y => ?_
  have ht := tlt t
  have hi := (at21 t hf).1
  have h30 := (at21 t hf).2
  blk_simp; rw [after0_21]
  unfold Gen.out0_21
  canon_tiles x h
  case piece0 =>
    obtain ⟨r, l, rfl⟩ : ∃ (r : Fin 256) (l : Fin 512), x = ix2 r l := ⟨x 0, x 1, eq_ix2 x⟩
    have hj : (win0_21.blk t).view.emb y = (ix2 ⟨(t.val / 32 * 2 + (t.val % 32 - 30)) * 256 + (r : ℕ), by omega⟩ l : S2048x512.Idx) := by
      blk_ext [hi, h0, h1]
    rw [hj]
    have hR : late ⟨(t.val / 32 * 2 + (t.val % 32 - 30)) * 256 + (r : ℕ), by omega⟩ = ⟨t.val * 256 + (r : ℕ), by omega⟩ := by
      refine Fin.ext ?_
      show ((t.val / 32 * 2 + (t.val % 32 - 30)) * 256 + (r : ℕ)) / 512 * 8192 + 7680 + ((t.val / 32 * 2 + (t.val % 32 - 30)) * 256 + (r : ℕ)) % 512
        = t.val * 256 + (r : ℕ)
      omega
    refine (pay9_at _ _ _ _ r l).trans ?_
    unfold G21
    show _ = pj m c (late ⟨(t.val / 32 * 2 + (t.val % 32 - 30)) * 256 + (r : ℕ), by omega⟩) ⟨1024 + (l : ℕ), by omega⟩
    rw [hR]
    unfold pj
    exact congrArg₂ prj (funext fun k => hm_at m c t r k) (funext fun k => (ld7 _ k l).trans (wcol m c t k ⟨1024 + (l : ℕ), by omega⟩))

end Cert.InpIdeal.Point

end
-- ==== Proof.InpRef.lean ====
module

public import proofs.«01_k».proof.Proof.InpPay
public import proofs.«01_k».proof.Proof.Gen.InpRefIdeal.Read
public import Idealize.ShloMosaic.Lib.Pointwise

@[expose] public section

set_option maxRecDepth 16384

noncomputable section

open Idealize.ShloMosaic Idealize.ShloMosaic.TcCoe Idealize.SL.Sem

namespace Cert.InpRefIdeal.Row

open Cert.InpRefIdeal Cert.InpRefIdeal.Gen Cert.InpRefIdeal.Read Cert.Mlp Cert.Inp.Row

variable (x0 : (⟨S32768x1024, .f32⟩ : BufTy).Contents (Elt Ideal)) (x1 x5 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x6 : (⟨S1x1024x3368, .f32⟩ : BufTy).Contents (Elt Ideal))

theorem zero_word : Ideal.ofBits .f32 0x00000000#32 = 0 := by
  simp [Ideal.ofBits, Ideal.ieee]

theorem one_word : Ideal.ofBits .f32 0x3F800000#32 = 1 := by
  simp [Ideal.ofBits, Ideal.ieee]
  rw [← EReal.coe_mul]
  norm_num

theorem v13_at (R : Fin 32768) (l : Fin 1024) : val_main_v13 (F := Ideal) x0 x1 (ix2 R l)
    = nrm (fun l => x0 (ix2 R l)) (fun l => x1 (ix2 (0 : Fin 1) l)) l := by
  have hr : ∀ R : Fin 32768, val_main_v2 (F := Ideal) x0 (ix1 R) = ∑ k : Fin 1024, x0 (ix2 R k) * x0 (ix2 R k) := by
    intro R
    rw [val_main_v2_apply, val_main_cst_apply]
    have hi : ∀ k : Fin 1024, idx_main_v2 (ix1 R) k = ix2 R k := fun k => funext fun a => match a with | ⟨0, _⟩ => rfl | ⟨1, _⟩ => rfl
    simp only [hi, val_main_v1_apply]
    refine (congrArg (· + _) (show _ = (0 : EReal) from zero_word)).trans (zero_add _)
  have hg : val_main_v12 (F := Ideal) x1 (ix2 R l) = x1 (ix2 (0 : Fin 1) l) := by
    pointwise [val_main_v12, val_main_v11, val_main_v0]
  have hs : val_main_v9 (F := Ideal) x0 (ix2 R l)
      = Ideal.rsqrt (Ideal.div (val_main_v2 (F := Ideal) x0 (ix1 R)) (Ideal.ofBits .f32 0x44800000#32) + Ideal.ofBits .f32 0x358637BD#32) := by
    unfold val_main_v9 val_main_v8 val_main_v7 val_main_v5 val_main_v3
    generalize val_main_v2 (F := Ideal) x0 = y
    pointwise [val_main_v4, val_main_v6, val_main_cst_0, val_main_cst_1]
  rw [val_main_v13_apply, val_main_v10_apply, hg, hs, hr]
  rfl

theorem v19_at (R : Fin 32768) (f : Fin 2816) : val_main_v19 (F := Ideal) x0 x1 x2 x3 (ix2 R f)
    = hid (fun k => val_main_v13 (F := Ideal) x0 x1 (ix2 R k)) (fun k f => x2 (ix3 (0 : Fin 1) k f)) (fun k f => x3 (ix3 (0 : Fin 1) k f)) f := by
  have hg : val_main_v15 (F := Ideal) x0 x1 x2 (ix2 R f)
      = ∑ k : Fin 1024, val_main_v13 (F := Ideal) x0 x1 (ix2 R k) * x2 (ix3 (0 : Fin 1) k f) := by
    rw [val_main_v15_apply]
    have hl : ∀ k : Fin 1024, lidx_main_v15 (ix2 R f) k = ix2 R k := fun k => funext fun a => match a with | ⟨0, _⟩ => rfl | ⟨1, _⟩ => rfl
    have hr : ∀ k : Fin 1024, ridx_main_v15 (ix2 R f) k = ix2 k f := fun k => funext fun a => match a with | ⟨0, _⟩ => rfl | ⟨1, _⟩ => rfl
    have hw : ∀ k : Fin 1024, val_main_v14 (F := Ideal) x2 (ix2 k f) = x2 (ix3 (0 : Fin 1) k f) := fun k => by
      pointwise [val_main_v14]
    simp only [hl, hr, hw]
  have hu : val_main_v18 (F := Ideal) x0 x1 x3 (ix2 R f)
      = ∑ k : Fin 1024, val_main_v13 (F := Ideal) x0 x1 (ix2 R k) * x3 (ix3 (0 : Fin 1) k f) := by
    rw [val_main_v18_apply]
    have hl : ∀ k : Fin 1024, lidx_main_v18 (ix2 R f) k = ix2 R k := fun k => funext fun a => match a with | ⟨0, _⟩ => rfl | ⟨1, _⟩ => rfl
    have hr : ∀ k : Fin 1024, ridx_main_v18 (ix2 R f) k = ix2 k f := fun k => funext fun a => match a with | ⟨0, _⟩ => rfl | ⟨1, _⟩ => rfl
    have hw : ∀ k : Fin 1024, val_main_v17 (F := Ideal) x3 (ix2 k f) = x3 (ix3 (0 : Fin 1) k f) := fun k => by
      pointwise [val_main_v17]
    simp only [hl, hr, hw]
  have hs : val_main_call0_v5 (F := Ideal) x0 x1 x2 (ix2 R f)
      = Ideal.logistic (val_main_v15 (F := Ideal) x0 x1 x2 (ix2 R f)) := by
    rw [val_main_call0_v5_apply, val_main_call0_v4_apply, val_main_call0_v3_apply, val_main_call0_v2_apply, val_main_call0_v1_apply,
      val_main_call0_v0_apply, val_main_call0_cst_apply, val_main_call0_cst_0_apply]
    generalize val_main_v15 (F := Ideal) x0 x1 x2 (ix2 R f) = y
    show Ideal.div (Ideal.ofBits .f32 0x3F800000#32) (Ideal.ofBits .f32 0x3F800000#32 + Ideal.exp (-y)) = _
    rw [one_word]
    rfl
  rw [val_main_v19_apply, val_main_v16_apply, hs, hg, hu]
  rfl

theorem v24_at (R : Fin 32768) (l : Fin 1024) : val_main_v24 (F := Ideal) x0 x1 x2 x3 x4 (ix2 R l)
    = ffn (fun l => x0 (ix2 R l)) (fun l => x1 (ix2 (0 : Fin 1) l)) (fun k f => x2 (ix3 (0 : Fin 1) k f))
        (fun k f => x3 (ix3 (0 : Fin 1) k f)) (fun f l => x4 (ix3 (0 : Fin 1) f l)) l := by
  rw [val_main_v24_apply, val_main_v23_apply, val_main_v22_apply, val_main_v21_apply]
  have hl : ∀ k : Fin 2816, lidx_main_v21 (ix2 R l) k = ix2 R k := fun k => funext fun a => match a with | ⟨0, _⟩ => rfl | ⟨1, _⟩ => rfl
  have hr : ∀ k : Fin 2816, ridx_main_v21 (ix2 R l) k = ix2 k l := fun k => funext fun a => match a with | ⟨0, _⟩ => rfl | ⟨1, _⟩ => rfl
  have hw : ∀ k : Fin 2816, val_main_v20 (F := Ideal) x4 (ix2 k l) = x4 (ix3 (0 : Fin 1) k l) := fun k => by
    pointwise [val_main_v20]
  simp only [hl, hr, hw, v19_at, funext (v13_at x0 x1 R)]
  rfl

theorem v38_at (R : Fin 32768) (l : Fin 1024) : val_main_v38 (F := Ideal) x0 x1 x2 x3 x4 x5 (ix2 R l)
    = nrm (fun l => val_main_v24 (F := Ideal) x0 x1 x2 x3 x4 (ix2 R l)) (fun l => x5 (ix2 (0 : Fin 1) l)) l := by
  have hr : ∀ R : Fin 32768, val_main_v27 (F := Ideal) x0 x1 x2 x3 x4 (ix1 R)
      = ∑ k : Fin 1024, val_main_v24 (F := Ideal) x0 x1 x2 x3 x4 (ix2 R k) * val_main_v24 (F := Ideal) x0 x1 x2 x3 x4 (ix2 R k) := by
    intro R
    rw [val_main_v27_apply, val_main_cst_3_apply]
    have hi : ∀ k : Fin 1024, idx_main_v27 (ix1 R) k = ix2 R k := fun k => funext fun a => match a with | ⟨0, _⟩ => rfl | ⟨1, _⟩ => rfl
    simp only [hi, val_main_v26_apply]
    refine (congrArg (· + _) (show _ = (0 : EReal) from zero_word)).trans (zero_add _)
  have hg : val_main_v37 (F := Ideal) x5 (ix2 R l) = x5 (ix2 (0 : Fin 1) l) := by
    pointwise [val_main_v37, val_main_v36, val_main_v25]
  have hs : val_main_v34 (F := Ideal) x0 x1 x2 x3 x4 (ix2 R l)
      = Ideal.rsqrt (Ideal.div (val_main_v27 (F := Ideal) x0 x1 x2 x3 x4 (ix1 R)) (Ideal.ofBits .f32 0x44800000#32) + Ideal.ofBits .f32 0x358637BD#32) := by
    unfold val_main_v34 val_main_v33 val_main_v32 val_main_v30 val_main_v28
    generalize val_main_v27 (F := Ideal) x0 x1 x2 x3 x4 = y
    pointwise [val_main_v29, val_main_v31, val_main_cst_4, val_main_cst_5]
  rw [val_main_v38_apply, val_main_v35_apply, hg, hs, hr]
  rfl

theorem v40_at (R : Fin 32768) (q : Fin 3368) : val_main_v40 (F := Ideal) x0 x1 x2 x3 x4 x5 x6 (ix2 R q)
    = prj (nrm (ffn (fun l => x0 (ix2 R l)) (fun l => x1 (ix2 (0 : Fin 1) l)) (fun k f => x2 (ix3 (0 : Fin 1) k f))
        (fun k f => x3 (ix3 (0 : Fin 1) k f)) (fun f l => x4 (ix3 (0 : Fin 1) f l))) (fun l => x5 (ix2 (0 : Fin 1) l)))
        (fun k => x6 (ix3 (0 : Fin 1) k q)) := by
  rw [val_main_v40_apply]
  have hl : ∀ k : Fin 1024, lidx_main_v40 (ix2 R q) k = ix2 R k := fun k => funext fun a => match a with | ⟨0, _⟩ => rfl | ⟨1, _⟩ => rfl
  have hr : ∀ k : Fin 1024, ridx_main_v40 (ix2 R q) k = ix2 k q := fun k => funext fun a => match a with | ⟨0, _⟩ => rfl | ⟨1, _⟩ => rfl
  have hw : ∀ k : Fin 1024, val_main_v39 (F := Ideal) x6 (ix2 k q) = x6 (ix3 (0 : Fin 1) k q) := fun k => by
    pointwise [val_main_v39]
  simp only [hl, hr, hw, v38_at, funext (v24_at x0 x1 x2 x3 x4 R)]
  rfl

theorem v43_at (R : Fin 32768) (l : Fin 512) : val_main_v43 (F := Ideal) x0 x1 x2 x3 x4 x5 x6 (ix2 R l)
    = val_main_v40 (F := Ideal) x0 x1 x2 x3 x4 x5 x6 (ix2 R ⟨2560 + (l : ℕ), by omega⟩) := by
  rw [val_main_v43_apply]
  exact congrArg _ (funext fun a => match a with | ⟨0, _⟩ => rfl | ⟨1, _⟩ => rfl)

theorem v46_at (n : Fin 2048) (l : Fin 512) : val_main_v46 (F := Ideal) x0 x1 x2 x3 x4 x5 x6 (ix2 n l)
    = val_main_v40 (F := Ideal) x0 x1 x2 x3 x4 x5 x6 (ix2 (late n) ⟨512 + (l : ℕ), by omega⟩) := by
  rw [val_main_v46_apply, val_main_v45_apply, val_main_v44_apply, val_main_v41_apply]
  refine congrArg _ (funext fun a => match a with | ⟨0, _⟩ => Fin.ext ?_ | ⟨1, _⟩ => Fin.ext ?_)
  · show ((((n : ℕ) * 512 + (l : ℕ)) / 262144 * 8192 + (7680 + ((n : ℕ) * 512 + (l : ℕ)) / 512 % 512)) * 512 + ((n : ℕ) * 512 + (l : ℕ)) % 512) / 512
      = (n : ℕ) / 512 * 8192 + 7680 + (n : ℕ) % 512
    omega
  · show 512 + ((((n : ℕ) * 512 + (l : ℕ)) / 262144 * 8192 + (7680 + ((n : ℕ) * 512 + (l : ℕ)) / 512 % 512)) * 512 + ((n : ℕ) * 512 + (l : ℕ)) % 512) % 512
      = 512 + (l : ℕ)
    omega

theorem v49_at (n : Fin 2048) (l : Fin 512) : val_main_v49 (F := Ideal) x0 x1 x2 x3 x4 x5 x6 (ix2 n l)
    = val_main_v40 (F := Ideal) x0 x1 x2 x3 x4 x5 x6 (ix2 (late n) ⟨1024 + (l : ℕ), by omega⟩) := by
  rw [val_main_v49_apply, val_main_v48_apply, val_main_v47_apply, val_main_v42_apply]
  refine congrArg _ (funext fun a => match a with | ⟨0, _⟩ => Fin.ext ?_ | ⟨1, _⟩ => Fin.ext ?_)
  · show ((((n : ℕ) * 512 + (l : ℕ)) / 262144 * 8192 + (7680 + ((n : ℕ) * 512 + (l : ℕ)) / 512 % 512)) * 512 + ((n : ℕ) * 512 + (l : ℕ)) % 512) / 512
      = (n : ℕ) / 512 * 8192 + 7680 + (n : ℕ) % 512
    omega
  · show 1024 + ((((n : ℕ) * 512 + (l : ℕ)) / 262144 * 8192 + (7680 + ((n : ℕ) * 512 + (l : ℕ)) / 512 % 512)) * 512 + ((n : ℕ) * 512 + (l : ℕ)) % 512) % 512
      = 1024 + (l : ℕ)
    omega

end Cert.InpRefIdeal.Row

end
-- ==== Proof.lean ====
module

public import proofs.«01_k».proof.Defs
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandRefIdeal
public import proofs.«01_k».proof.Proof.Gen.BandIdeal.Value
public import proofs.«01_k».proof.Proof.Gen.BandRefIdeal.Run
public import proofs.«01_k».proof.Proof.Gen.BandRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.InpRefIdeal.Read
public import proofs.«01_k».proof.Proof.Link
public import proofs.«01_k».proof.Proof.MlpPoint
public import proofs.«01_k».proof.Proof.MlpRef
public import proofs.«01_k».proof.Proof.InpFinal
public import proofs.«01_k».proof.Proof.InpRef
public import Idealize.ShloMosaic.Adequacy
public import Idealize.ShloMosaic.Init

@[expose] public section

noncomputable section

namespace Cert.Proof

open Idealize.ShloMosaic Idealize.ShloMosaic.TcCoe Idealize.SL.Sem

/-- The shape facts the precondition's function takes. -/
theorem preFacts : Cert.Pre_finite.Facts := ⟨by decide, by decide⟩

section
variable [hPre : Cert.Pre_finite.Facts]

/-- Under the precondition the queries, the keys and the biases are reals. -/
theorem reals (m : (ℓ : Loc Cert.BandIdeal.nD Cert.BandIdeal.τ Cert.BandIdeal.sig) → Buf (Elt Ideal) ℓ)
    (hp : Cert.Pre_BandIdeal_finite m) (c : Dev Cert.BandIdeal.nD) :
    (∃ q : Cert.BandIdeal.S32768x512.Idx → ℝ,
        m ((c : Thread Cert.BandIdeal.nD Cert.BandIdeal.τ).loc Cert.BandIdeal.main_arg0) = fun i => (q i : EReal))
      ∧ (∃ k : Cert.BandIdeal.S32768x512.Idx → ℝ,
        m ((c : Thread Cert.BandIdeal.nD Cert.BandIdeal.τ).loc Cert.BandIdeal.main_arg1) = fun i => (k i : EReal))
      ∧ ∃ b : Cert.BandIdeal.S1x8x257.Idx → ℝ,
        m ((c : Thread Cert.BandIdeal.nD Cert.BandIdeal.τ).loc Cert.BandIdeal.main_arg3) = fun i => (b i : EReal) := by
  obtain ⟨h0, h1, h3⟩ := hp c
  refine ⟨?_, ?_, ?_⟩
  · have h : ∀ i, ∃ r : ℝ, m ((c : Thread Cert.BandIdeal.nD Cert.BandIdeal.τ).loc Cert.BandIdeal.main_arg0) i = (r : EReal) :=
      fun i => Cert.BandIdeal.Link.finite_of (congrFun h0 i)
    choose r hr using h
    exact ⟨r, funext hr⟩
  · have h : ∀ i, ∃ r : ℝ, m ((c : Thread Cert.BandIdeal.nD Cert.BandIdeal.τ).loc Cert.BandIdeal.main_arg1) i = (r : EReal) :=
      fun i => Cert.BandIdeal.Link.finite_of (congrFun h1 i)
    choose r hr using h
    exact ⟨r, funext hr⟩
  · have h : ∀ i, ∃ r : ℝ, m ((c : Thread Cert.BandIdeal.nD Cert.BandIdeal.τ).loc Cert.BandIdeal.main_arg3) i = (r : EReal) :=
      fun i => Cert.BandIdeal.Link.finite_of (congrFun h3 i)
    choose r hr using h
    exact ⟨r, funext hr⟩

/-- What the kernel leaves is what the reference leaves. -/
theorem values (m : (ℓ : Loc Cert.BandIdeal.nD Cert.BandIdeal.τ Cert.BandIdeal.sig) → Buf (Elt Ideal) ℓ)
    (hp : Cert.Pre_BandIdeal_finite m) (c : Dev Cert.BandIdeal.nD) :
    Cert.BandIdeal.Point.G m c = Cert.BandRefIdeal.Read.val_main_v76 (F := Ideal)
      (m ((c : Thread Cert.BandIdeal.nD Cert.BandIdeal.τ).loc Cert.BandIdeal.main_arg0))
      (m ((c : Thread Cert.BandIdeal.nD Cert.BandIdeal.τ).loc Cert.BandIdeal.main_arg1))
      (m ((c : Thread Cert.BandIdeal.nD Cert.BandIdeal.τ).loc Cert.BandIdeal.main_arg2))
      (m ((c : Thread Cert.BandIdeal.nD Cert.BandIdeal.τ).loc Cert.BandIdeal.main_arg3)) := by
  obtain ⟨⟨q, hq⟩, ⟨k, hk⟩, ⟨b, hb⟩⟩ := reals m hp c
  rw [hq, hk, hb]
  funext i
  rw [← ix2_eta i]
  exact Cert.BandIdeal.Link.agree m q k b c hq hk hb (i 0) (i 1)

end

theorem algebraic : Cert.algebraic_BandIdeal_BandRefIdeal_pre_finite (hBandIdeal := Cert.BandIdeal.Gen.facts)
    (hBandRefIdeal := Cert.BandRefIdeal.Gen.facts) (hPre_finite := preFacts) := by
  letI := preFacts
  intro m g m' g' hp hm
  refine ⟨fun c => Cert.BandIdeal.Point.G m c, ?_, ?_⟩
  · refine (θ_run _ _ _).mono (fun r h c => ?_) (Cert.BandIdeal.Value.run_blocks (F := Ideal) m g)
    obtain ⟨h0, hr⟩ := h c
    exact ⟨h0.trans (Cert.BandIdeal.Point.final m c), hr⟩
  · refine (θ_run _ _ _).mono (fun r h c => ?_) (Cert.BandRefIdeal.Value.run (F := Ideal) m' g')
    obtain ⟨h0, hr⟩ := h c
    obtain ⟨e0, e1, e2, e3⟩ := hm c
    refine ⟨h0.trans ?_, hr⟩
    rw [Cert.BandRefIdeal.Read.val_main_v76_eq, e0, e1, e2, e3]
    exact (values m hp c).symm

/-- The reference holds no semaphore, so every counter reads zero. -/
theorem refFrame (m : (ℓ : Loc Cert.BandRefIdeal.nD Cert.BandRefIdeal.τ Cert.BandRefIdeal.sig) → Buf (Elt Ideal) ℓ)
    (ρ : Dev Cert.BandRefIdeal.nD → PrngReg) :
    θ_run (Cert.BandRefIdeal.defs (F := Ideal)) (onTc (τ := Cert.BandRefIdeal.τ) (Cert.BandRefIdeal.main (F := Ideal))) ⟨m, fun _ => 0, ρ⟩
      (fun r => (∀ c : Dev Cert.BandRefIdeal.nD,
        r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
        ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
        ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
        ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
        ∧ r.2.sem = fun _ => 0) :=
  (θ_run _ _ _).mono (fun r h => ⟨fun c => (h c).2, funext fun g => by
    rcases g with ⟨t, ⟨s⟩ | ⟨s⟩⟩
    · exact s.elim0
    · exact s.elim0⟩) (Cert.BandRefIdeal.Value.run (F := Ideal) m ρ)

/-- What the second kernel leaves is what its reference leaves. -/
theorem valuesOut (m : (ℓ : Loc Cert.OutIdeal.nD Cert.OutIdeal.τ Cert.OutIdeal.sig) → Buf (Elt Ideal) ℓ) (c : Dev Cert.OutIdeal.nD) :
    Cert.OutIdeal.MlpPoint.G m c = Cert.OutRefIdeal.Read.val_main_v43 (F := Ideal)
      (m ((c : Thread Cert.OutIdeal.nD Cert.OutIdeal.τ).loc Cert.OutIdeal.main_arg0))
      (m ((c : Thread Cert.OutIdeal.nD Cert.OutIdeal.τ).loc Cert.OutIdeal.main_arg1))
      (m ((c : Thread Cert.OutIdeal.nD Cert.OutIdeal.τ).loc Cert.OutIdeal.main_arg2))
      (m ((c : Thread Cert.OutIdeal.nD Cert.OutIdeal.τ).loc Cert.OutIdeal.main_arg3))
      (m ((c : Thread Cert.OutIdeal.nD Cert.OutIdeal.τ).loc Cert.OutIdeal.main_arg4))
      (m ((c : Thread Cert.OutIdeal.nD Cert.OutIdeal.τ).loc Cert.OutIdeal.main_arg5))
      (m ((c : Thread Cert.OutIdeal.nD Cert.OutIdeal.τ).loc Cert.OutIdeal.main_arg6))
      (m ((c : Thread Cert.OutIdeal.nD Cert.OutIdeal.τ).loc Cert.OutIdeal.main_arg7))
      (m ((c : Thread Cert.OutIdeal.nD Cert.OutIdeal.τ).loc Cert.OutIdeal.main_arg8)) := by
  funext i
  refine Eq.trans ?_ (congrArg _ (ix2_eta i))
  exact (Cert.OutRefIdeal.MlpRef.at_row _ _ _ _ _ _ _ _ _ (i 0) (i 1)).symm

theorem algebraicOut : Cert.algebraic_OutIdeal_OutRefIdeal (hOutIdeal := Cert.OutIdeal.Gen.facts)
    (hOutRefIdeal := Cert.OutRefIdeal.Gen.facts) := by
  intro m g m' g' hp hm
  refine ⟨fun c => Cert.OutIdeal.MlpPoint.G m c, ?_, ?_⟩
  · refine (θ_run _ _ _).mono (fun r h c => ?_) (Cert.OutIdeal.Value.run_blocks (F := Ideal) m g)
    obtain ⟨h0, hr⟩ := h c
    exact ⟨h0.trans (Cert.OutIdeal.MlpPoint.final m c), hr⟩
  · refine (θ_run _ _ _).mono (fun r h c => ?_) (Cert.OutRefIdeal.Value.run (F := Ideal) m' g')
    obtain ⟨h0, hr⟩ := h c
    obtain ⟨e0, e1, e2, e3, e4, e5, e6, e7, e8⟩ := hm c
    refine ⟨h0.trans ?_, hr⟩
    rw [Cert.OutRefIdeal.Read.val_main_v43_eq, e0, e1, e2, e3, e4, e5, e6, e7, e8]
    exact (valuesOut m c).symm

/-- The second reference holds no semaphore either. -/
theorem refFrameOut (m : (ℓ : Loc Cert.OutRefIdeal.nD Cert.OutRefIdeal.τ Cert.OutRefIdeal.sig) → Buf (Elt Ideal) ℓ)
    (ρ : Dev Cert.OutRefIdeal.nD → PrngReg) :
    θ_run (Cert.OutRefIdeal.defs (F := Ideal)) (onTc (τ := Cert.OutRefIdeal.τ) (Cert.OutRefIdeal.main (F := Ideal))) ⟨m, fun _ => 0, ρ⟩
      (fun r => (∀ c : Dev Cert.OutRefIdeal.nD,
        r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
        ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
        ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
        ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
        ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
        ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
        ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
        ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
        ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
        ∧ r.2.sem = fun _ => 0) :=
  (θ_run _ _ _).mono (fun r h => ⟨fun c => (h c).2, funext fun g => by
    rcases g with ⟨t, ⟨s⟩ | ⟨s⟩⟩
    · exact s.elim0
    · exact s.elim0⟩) (Cert.OutRefIdeal.Value.run (F := Ideal) m ρ)

section
variable (m : (ℓ : Loc Cert.InpIdeal.nD Cert.InpIdeal.τ Cert.InpIdeal.sig) → Buf (Elt Ideal) ℓ) (c : Dev Cert.InpIdeal.nD)

/-- The residual rows after the first feed-forward part: what the third kernel leaves is what its reference leaves. -/
theorem valuesMid : Cert.InpIdeal.Point.G13 m c = Cert.InpRefIdeal.Read.val_main_v24 (F := Ideal)
      (m ((c : Thread Cert.InpIdeal.nD Cert.InpIdeal.τ).loc Cert.InpIdeal.main_arg0))
      (m ((c : Thread Cert.InpIdeal.nD Cert.InpIdeal.τ).loc Cert.InpIdeal.main_arg1))
      (m ((c : Thread Cert.InpIdeal.nD Cert.InpIdeal.τ).loc Cert.InpIdeal.main_arg2))
      (m ((c : Thread Cert.InpIdeal.nD Cert.InpIdeal.τ).loc Cert.InpIdeal.main_arg3))
      (m ((c : Thread Cert.InpIdeal.nD Cert.InpIdeal.τ).loc Cert.InpIdeal.main_arg4)) := by
  funext i
  refine Eq.trans ?_ (congrArg _ (ix2_eta i))
  exact (Cert.InpRefIdeal.Row.v24_at _ _ _ _ _ (i 0) (i 1)).symm

/-- The last keys of the first head group: what the third kernel leaves is what its reference leaves. -/
theorem valuesKa : Cert.InpIdeal.Point.G20 m c = Cert.InpRefIdeal.Read.val_main_v46 (F := Ideal)
      (m ((c : Thread Cert.InpIdeal.nD Cert.InpIdeal.τ).loc Cert.InpIdeal.main_arg0))
      (m ((c : Thread Cert.InpIdeal.nD Cert.InpIdeal.τ).loc Cert.InpIdeal.main_arg1))
      (m ((c : Thread Cert.InpIdeal.nD Cert.InpIdeal.τ).loc Cert.InpIdeal.main_arg2))
      (m ((c : Thread Cert.InpIdeal.nD Cert.InpIdeal.τ).loc Cert.InpIdeal.main_arg3))
      (m ((c : Thread Cert.InpIdeal.nD Cert.InpIdeal.τ).loc Cert.InpIdeal.main_arg4))
      (m ((c : Thread Cert.InpIdeal.nD Cert.InpIdeal.τ).loc Cert.InpIdeal.main_arg5))
      (m ((c : Thread Cert.InpIdeal.nD Cert.InpIdeal.τ).loc Cert.InpIdeal.main_arg6)) := by
  funext i
  refine Eq.trans ?_ (congrArg _ (ix2_eta i))
  exact ((Cert.InpRefIdeal.Row.v46_at _ _ _ _ _ _ _ (i 0) (i 1)).trans (Cert.InpRefIdeal.Row.v40_at _ _ _ _ _ _ _ _ _)).symm

/-- The last values of the first head group: what the third kernel leaves is what its reference leaves. -/
theorem valuesVa : Cert.InpIdeal.Point.G21 m c = Cert.InpRefIdeal.Read.val_main_v49 (F := Ideal)
      (m ((c : Thread Cert.InpIdeal.nD Cert.InpIdeal.τ).loc Cert.InpIdeal.main_arg0))
      (m ((c : Thread Cert.InpIdeal.nD Cert.InpIdeal.τ).loc Cert.InpIdeal.main_arg1))
      (m ((c : Thread Cert.InpIdeal.nD Cert.InpIdeal.τ).loc Cert.InpIdeal.main_arg2))
      (m ((c : Thread Cert.InpIdeal.nD Cert.InpIdeal.τ).loc Cert.InpIdeal.main_arg3))
      (m ((c : Thread Cert.InpIdeal.nD Cert.InpIdeal.τ).loc Cert.InpIdeal.main_arg4))
      (m ((c : Thread Cert.InpIdeal.nD Cert.InpIdeal.τ).loc Cert.InpIdeal.main_arg5))
      (m ((c : Thread Cert.InpIdeal.nD Cert.InpIdeal.τ).loc Cert.InpIdeal.main_arg6)) := by
  funext i
  refine Eq.trans ?_ (congrArg _ (ix2_eta i))
  exact ((Cert.InpRefIdeal.Row.v49_at _ _ _ _ _ _ _ (i 0) (i 1)).trans (Cert.InpRefIdeal.Row.v40_at _ _ _ _ _ _ _ _ _)).symm

/-- The values of the second head group: what the third kernel leaves is what its reference leaves. -/
theorem valuesVb : Cert.InpIdeal.Point.G23 m c = Cert.InpRefIdeal.Read.val_main_v43 (F := Ideal)
      (m ((c : Thread Cert.InpIdeal.nD Cert.InpIdeal.τ).loc Cert.InpIdeal.main_arg0))
      (m ((c : Thread Cert.InpIdeal.nD Cert.InpIdeal.τ).loc Cert.InpIdeal.main_arg1))
      (m ((c : Thread Cert.InpIdeal.nD Cert.InpIdeal.τ).loc Cert.InpIdeal.main_arg2))
      (m ((c : Thread Cert.InpIdeal.nD Cert.InpIdeal.τ).loc Cert.InpIdeal.main_arg3))
      (m ((c : Thread Cert.InpIdeal.nD Cert.InpIdeal.τ).loc Cert.InpIdeal.main_arg4))
      (m ((c : Thread Cert.InpIdeal.nD Cert.InpIdeal.τ).loc Cert.InpIdeal.main_arg5))
      (m ((c : Thread Cert.InpIdeal.nD Cert.InpIdeal.τ).loc Cert.InpIdeal.main_arg6)) := by
  funext i
  refine Eq.trans ?_ (congrArg _ (ix2_eta i))
  exact ((Cert.InpRefIdeal.Row.v43_at _ _ _ _ _ _ _ (i 0) (i 1)).trans (Cert.InpRefIdeal.Row.v40_at _ _ _ _ _ _ _ _ _)).symm

end

theorem algebraicInp : Cert.algebraic_InpIdeal_InpRefIdeal (hInpIdeal := Cert.InpIdeal.Gen.facts)
    (hInpRefIdeal := Cert.InpRefIdeal.Gen.facts) := by
  intro m g m' g' hp hm
  refine ⟨fun c => Cert.InpIdeal.Point.G13 m c, fun c => Cert.InpIdeal.Point.G20 m c, fun c => Cert.InpIdeal.Point.G21 m c,
    fun c => Cert.InpIdeal.Point.G23 m c, ?_, ?_⟩
  · refine (θ_run _ _ _).mono (fun r h c => ?_) (Cert.InpIdeal.Value.run_blocks (F := Ideal) m g)
    obtain ⟨h0, h1, h2, h3, h4, h5, h6, h7, h8, h9, h10, h11, h12, h13, hr⟩ := h c
    exact ⟨h0.trans (Cert.InpIdeal.Point.final13 m c), h7.trans (Cert.InpIdeal.Point.final20 m c),
      h8.trans (Cert.InpIdeal.Point.final21 m c), h10.trans (Cert.InpIdeal.Point.final23 m c), hr⟩
  · refine (θ_run _ _ _).mono (fun r h c => ?_) (Cert.InpRefIdeal.Value.run (F := Ideal) m' g')
    obtain ⟨h0, h1, h2, h3, hr⟩ := h c
    obtain ⟨e0, e1, e2, e3, e4, e5, e6⟩ := hm c
    refine ⟨h0.trans ?_, h1.trans ?_, h2.trans ?_, h3.trans ?_, hr⟩
    · rw [Cert.InpRefIdeal.Read.val_main_v24_eq, e0, e1, e2, e3, e4]
      exact (valuesMid m c).symm
    · rw [Cert.InpRefIdeal.Read.val_main_v46_eq, e0, e1, e2, e3, e4, e5, e6]
      exact (valuesKa m c).symm
    · rw [Cert.InpRefIdeal.Read.val_main_v49_eq, e0, e1, e2, e3, e4, e5, e6]
      exact (valuesVa m c).symm
    · rw [Cert.InpRefIdeal.Read.val_main_v43_eq, e0, e1, e2, e3, e4, e5, e6]
      exact (valuesVb m c).symm

/-- The third reference holds no semaphore either. -/
theorem refFrameInp (m : (ℓ : Loc Cert.InpRefIdeal.nD Cert.InpRefIdeal.τ Cert.InpRefIdeal.sig) → Buf (Elt Ideal) ℓ)
    (ρ : Dev Cert.InpRefIdeal.nD → PrngReg) :
    θ_run (Cert.InpRefIdeal.defs (F := Ideal)) (onTc (τ := Cert.InpRefIdeal.τ) (Cert.InpRefIdeal.main (F := Ideal))) ⟨m, fun _ => 0, ρ⟩
      (fun r => (∀ c : Dev Cert.InpRefIdeal.nD,
        r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
        ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
        ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
        ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
        ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
        ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
        ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
        ∧ r.2.sem = fun _ => 0) :=
  (θ_run _ _ _).mono (fun r h => ⟨fun c => (h c).2.2.2.2, funext fun g => by
    rcases g with ⟨t, ⟨s⟩ | ⟨s⟩⟩
    · exact s.elim0
    · exact s.elim0⟩) (Cert.InpRefIdeal.Value.run (F := Ideal) m ρ)

theorem claim : Cert.Claim := ⟨Cert.Band.Gen.facts, Cert.BandIdeal.Gen.facts, Cert.BandRefIdeal.Gen.facts,
  Cert.Out.Gen.facts, Cert.OutIdeal.Gen.facts, Cert.OutRefIdeal.Gen.facts,
  Cert.Inp.Gen.facts, Cert.InpIdeal.Gen.facts, Cert.InpRefIdeal.Gen.facts, preFacts,
  fun m ρ _ => Cert.Band.Gen.frame m ρ, fun m ρ _ => Cert.BandIdeal.Gen.frame m ρ, fun m ρ _ => Cert.BandIdeal.Gen.frame m ρ,
  fun m ρ _ => refFrame m ρ, fun m ρ _ => refFrame m ρ,
  fun m ρ _ => Cert.Out.Gen.frame m ρ, fun m ρ _ => Cert.OutIdeal.Gen.frame m ρ, fun m ρ _ => refFrameOut m ρ,
  fun m ρ _ => Cert.Inp.Gen.frame m ρ, fun m ρ _ => Cert.InpIdeal.Gen.frame m ρ, fun m ρ _ => refFrameInp m ρ,
  ⟨IdealRules.named_const.statement Cert.BandIdeal.κ "scale_log2e" .f32 0x3E38AA3B#32 _ rfl,
    IdealRules.named_const.statement Cert.BandIdeal.κ "log2e" .f32 0x3FB8AA3B#32 _ rfl⟩,
  algebraic, trivial, algebraicOut, trivial, algebraicInp⟩

end Cert.Proof

end
